-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "inv_nodes" .f32 0x3D4CCCCD#32 ((1 / 20 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4096x20 : Shape := ⟨2, ![4096, 20]⟩
abbrev S64x1 : Shape := ⟨2, ![64, 1]⟩
abbrev S64 : Shape := ⟨1, ![64]⟩
abbrev S256x64 : Shape := ⟨2, ![256, 64]⟩
abbrev S128x256 : Shape := ⟨2, ![128, 256]⟩
abbrev S256 : Shape := ⟨1, ![256]⟩
abbrev S128 : Shape := ⟨1, ![128]⟩
abbrev S_ : Shape := ⟨0, ![]⟩

class Facts : Prop where
  bcast_S_S4096x20 : S_.BroadcastsInDim S4096x20 (![] : Fin 0 → Fin S4096x20.rank)
  reducesTo_S4096x20_S_d0_1 : S4096x20.ReducesTo [0, 1] S_
  h_S_ : 0 < S_.numel
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S256 1) : IVec S_ 1 :=
  let main_c_22 : IVec S_ 1 := constantI S_ 1 1#1
  let main_v48 : IVec S_ 1 := (fun x v => Host.reduce IntOp.andi x v reducesTo_S256_S_d0 h_S_) main_v47 main_c_22
  let main_cst_23 : FVec F S_ .f32 := constant S_ .f32 0x3727C5AC#32
  let main_v49 : FVec F S128 .f32 := broadcastInDim S128 ![] bcast_S_S128 main_cst_23
  let main_v50 : FVec F S128 .f32 := addf main_arg12 main_v49
  let main_cst_24 : FVec F S_ .f32 := constant S_ .f32 0x00000000#32
  let main_v51 : FVec F S128 .f32 := broadcastInDim S128 ![] bcast_S_S128 main_cst_24
  let main_v52 : IVec S128 1 := cmpf .ogt main_v50 main_v51
  let main_c_25 : IVec S_ 1 := constantI S_ 1 1#1
  let main_v53 : IVec S_ 1 := (fun x v => Host.reduce IntOp.andi x v reducesTo_S128_S_d0 h_S_) main_v52 main_c_25
  let main_v54 : IVec S_ 1 := andi main_v3 main_v7
  let main_v55 : IVec S_ 1 := andi main_v54 main_v11
  let main_v56 : IVec S_ 1 := andi main_v55 main_v15
  let main_v57 : IVec S_ 1 := andi main_v56 main_v19
  let main_v58 : IVec S_ 1 := andi main_v57 main_v23
  let main_v59 : IVec S_ 1 := andi main_v58 main_v27
  let main_v60 : IVec S_ 1 := andi main_v59 main_v31
  let main_v61 : IVec S_ 1 := andi main_v60 main_v35
  let main_v62 : IVec S_ 1 := andi main_v61 main_v39
  let main_v63 : IVec S_ 1 := andi main_v62 main_v43
  let main_v64 : IVec S_ 1 := andi main_v63 main_v48
  let main_v65 : IVec S_ 1 := andi main_v64 main_v53
  main_v65

def fn_part2 {F : FTy → Type} [FloatOps F] (main_arg8 : FVec F S256 .f32) (main_arg9 : FVec F S128 .f32) (main_arg10 : FVec F S128 .f32) (main_arg11 : FVec F S128 .f32) (main_arg12 : FVec F S128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S128 .f32 := Host.absf main_arg9
  let main_cst_14 : FVec F S_ .f32 := constant S_ .f32 0x7F800000#32
  let main_v33 : FVec F S128 .f32 := broadcastInDim S128 ![] bcast_S_S128 main_cst_14
  let main_v34 : IVec S128 1 := cmpf .olt main_v32 main_v33
  let main_c_15 : IVec S_ 1 := constantI S_ 1 1#1
  let main_v35 : IVec S_ 1 := (fun x v => Host.reduce IntOp.andi x v reducesTo_S128_S_d0 h_S_) main_v34 main_c_15
  let main_v36 : FVec F S128 .f32 := Host.absf main_arg10
  let main_cst_16 : FVec F S_ .f32 := constant S_ .f32 0x7F800000#32
  let main_v37 : FVec F S128 .f32 := broadcastInDim S128 ![] bcast_S_S128 main_cst_16
  let main_v38 : IVec S128 1 := cmpf .olt main_v36 main_v37
  let main_c_17 : IVec S_ 1 := constantI S_ 1 1#1
  let main_v39 : IVec S_ 1 := (fun x v => Host.reduce IntOp.andi x v reducesTo_S128_S_d0 h_S_) main_v38 main_c_17
  let main_v40 : FVec F S128 .f32 := Host.absf main_arg11
  let main_cst_18 : FVec F S_ .f32 := constant S_ .f32 0x7F800000#32
  let main_v41 : FVec F S128 .f32 := broadcastInDim S128 ![] bcast_S_S128 main_cst_18
  let main_v42 : IVec S128 1 := cmpf .olt main_v40 main_v41
  let main_c_19 : IVec S_ 1 := constantI S_ 1 1#1
  let main_v43 : IVec S_ 1 := (fun x v => Host.reduce IntOp.andi x v reducesTo_S128_S_d0 h_S_) main_v42 main_c_19
  let main_cst_20 : FVec F S_ .f32 := constant S_ .f32 0x3727C5AC#32
  let main_v44 : FVec F S256 .f32 := broadcastInDim S256 ![] bcast_S_S256 main_cst_20
  let main_v45 : FVec F S256 .f32 := addf main_arg8 main_v44
  let main_cst_21 : FVec F S_ .f32 := constant S_ .f32 0x00000000#32
  let main_v46 : FVec F S256 .f32 := broadcastInDim S256 ![] bcast_S_S256 main_cst_21
  let main_v47 : IVec S256 1 := cmpf .ogt main_v45 main_v46
  fn_part3 (F := F) main_arg12 main_v3 main_v7 main_v11 main_v15 main_v19 main_v23 main_v27 main_v31 main_v35 main_v39 main_v43 main_v47

def fn_part1 {F : FTy → Type} [FloatOps F] (main_arg4 : FVec F S128x256 .f32) (main_arg5 : FVec F S256 .f32) (main_arg6 : FVec F S256 .f32) (main_arg7 : FVec F S256 .f32) (main_arg8 : FVec F S256 .f32) (main_arg9 : FVec F S128 .f32) (main_arg10 : FVec F S128 .f32) (main_arg11 : FVec F S128 .f32) (main_arg12 : FVec F S128 .f32) (main_v3 : IVec S_ 1) (main_v7 : IVec S_ 1) (main_v11 : IVec S_ 1) (main_v15 : IVec S_ 1) : IVec S_ 1 :=
  let main_v16 : FVec F S128x256 .f32 := Host.absf main_arg4
  let main_cst_6 : FVec F S_ .f32 := constant S_ .f32 0x7F800000#32
  let main_v17 : FVec F S128x256 .f32 := broadcastInDim S128x256 ![] bcast_S_S128x256 main_cst_6
  let main_v18 : IVec S128x256 1 := cmpf .olt main_v16 main_v17
  let main_c_7 : IVec S_ 1 := constantI S_ 1 1#1
  let main_v19 : IVec S_ 1 := (fun x v => Host.reduce IntOp.andi x v reducesTo_S128x256_S_d0_1 h_S_) main_v18 main_c_7
  let main_v20 : FVec F S256 .f32 := Host.absf main_arg5
  let main_cst_8 : FVec F S_ .f32 := constant S_ .f32 0x7F800000#32
  let main_v21 : FVec F S256 .f32 := broadcastInDim S256 ![] bcast_S_S256 main_cst_8
  let main_v22 : IVec S256 1 := cmpf .olt main_v20 main_v21
  let main_c_9 : IVec S_ 1 := constantI S_ 1 1#1
  let main_v23 : IVec S_ 1 := (fun x v => Host.reduce IntOp.andi x v reducesTo_S256_S_d0 h_S_) main_v22 main_c_9
  let main_v24 : FVec F S256 .f32 := Host.absf main_arg6
  let main_cst_10 : FVec F S_ .f32 := constant S_ .f32 0x7F800000#32
  let main_v25 : FVec F S256 .f32 := broadcastInDim S256 ![] bcast_S_S256 main_cst_10
  let main_v26 : IVec S256 1 := cmpf .olt main_v24 main_v25
  let main_c_11 : IVec S_ 1 := constantI S_ 1 1#1
  let main_v27 : IVec S_ 1 := (fun x v => Host.reduce IntOp.andi x v reducesTo_S256_S_d0 h_S_) main_v26 main_c_11
  let main_v28 : FVec F S256 .f32 := Host.absf main_arg7
  let main_cst_12 : FVec F S_ .f32 := constant S_ .f32 0x7F800000#32
  let main_v29 : FVec F S256 .f32 := broadcastInDim S256 ![] bcast_S_S256 main_cst_12
  let main_v30 : IVec S256 1 := cmpf .olt main_v28 main_v29
  let main_c_13 : IVec S_ 1 := constantI S_ 1 1#1
  let main_v31 : IVec S_ 1 := (fun x v => Host.reduce IntOp.andi x v reducesTo_S256_S_d0 h_S_) main_v30 main_c_13
  fn_part2 (F := F) main_arg8 main_arg9 main_arg10 main_arg11 main_arg12 main_v3 main_v7 main_v11 main_v15 main_v19 main_v23 main_v27 main_v31

def fn {F : FTy → Type} [FloatOps F] (main_arg0 : FVec F S4096x20 .f32) (main_arg1 : FVec F S64x1 .f32) (main_arg2 : FVec F S64 .f32) (main_arg3 : FVec F S256x64 .f32) (main_arg4 : FVec F S128x256 .f32) (main_arg5 : FVec F S256 .f32) (main_arg6 : FVec F S256 .f32) (main_arg7 : FVec F S256 .f32) (main_arg8 : FVec F S256 .f32) (main_arg9 : FVec F S128 .f32) (main_arg10 : FVec F S128 .f32) (main_arg11 : FVec F S128 .f32) (main_arg12 : FVec F S128 .f32) (main_arg13 : FVec F S128 .f32) (main_arg14 : FVec F S128 .f32) : IVec S_ 1 :=
  let main_v0 : FVec F S4096x20 .f32 := Host.absf main_arg0
  let main_cst : FVec F S_ .f32 := constant S_ .f32 0x7F800000#32
  let main_v1 : FVec F S4096x20 .f32 := broadcastInDim S4096x20 ![] bcast_S_S4096x20 main_cst
  let main_v2 : IVec S4096x20 1 := cmpf .olt main_v0 main_v1
  let main_c : IVec S_ 1 := constantI S_ 1 1#1
  let main_v3 : IVec S_ 1 := (fun x v => Host.reduce IntOp.andi x v reducesTo_S4096x20_S_d0_1 h_S_) main_v2 main_c
  let main_v4 : FVec F S64x1 .f32 := Host.absf main_arg1
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : FVec F S64 .f32 := Host.absf main_arg2
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  let main_v12 : FVec F S256x64 .f32 := Host.absf main_arg3
  let main_cst_4 : FVec F S_ .f32 := constant S_ .f32 0x7F800000#32
  let main_v13 : FVec F S256x64 .f32 := broadcastInDim S256x64 ![] bcast_S_S256x64 main_cst_4
  let main_v14 : IVec S256x64 1 := cmpf .olt main_v12 main_v13
  let main_c_5 : IVec S_ 1 := constantI S_ 1 1#1
  let main_v15 : IVec S_ 1 := (fun x v => Host.reduce IntOp.andi x v reducesTo_S256x64_S_d0_1 h_S_) main_v14 main_c_5
  fn_part1 (F := F) main_arg4 main_arg5 main_arg6 main_arg7 main_arg8 main_arg9 main_arg10 main_arg11 main_arg12 main_v3 main_v7 main_v11 main_v15
-- ==== Kernel.lean ====
abbrev S4096x20 : Shape := ⟨2, ![4096, 20]⟩
abbrev S64x1 : Shape := ⟨2, ![64, 1]⟩
abbrev S64 : Shape := ⟨1, ![64]⟩
abbrev S256x64 : Shape := ⟨2, ![256, 64]⟩
abbrev S128x256 : Shape := ⟨2, ![128, 256]⟩
abbrev S256 : Shape := ⟨1, ![256]⟩
abbrev S128 : Shape := ⟨1, ![128]⟩
abbrev S20x20 : Shape := ⟨2, ![20, 20]⟩
abbrev S20x1 : Shape := ⟨2, ![20, 1]⟩
abbrev S1x64 : Shape := ⟨2, ![1, 64]⟩
abbrev S1x256 : Shape := ⟨2, ![1, 256]⟩
abbrev S1x128 : Shape := ⟨2, ![1, 128]⟩
abbrev S4096x128 : Shape := ⟨2, ![4096, 128]⟩
abbrev S2048x20 : Shape := ⟨2, ![2048, 20]⟩
abbrev S2048x128 : Shape := ⟨2, ![2048, 128]⟩
abbrev S2048x1 : Shape := ⟨2, ![2048, 1]⟩
abbrev S2048x64 : Shape := ⟨2, ![2048, 64]⟩
abbrev S2048x256 : Shape := ⟨2, ![2048, 256]⟩
abbrev S128x128 : Shape := ⟨2, ![128, 128]⟩
abbrev S20x64 : Shape := ⟨2, ![20, 64]⟩
abbrev S20x256 : Shape := ⟨2, ![20, 256]⟩
abbrev S20x128 : Shape := ⟨2, ![20, 128]⟩
abbrev S1x20 : Shape := ⟨2, ![1, 20]⟩

abbrev nBuf : Space → Nat
  | .hbm => 32
  | .vmem => 22
  | .smem => 0
  | _ => 0

abbrev bufTy : (tb : Table) → Fin (tcTables nBuf tb) → BufTy
  | .hbm, ⟨0, _⟩ => ⟨S4096x20, .f32⟩
  | .hbm, ⟨1, _⟩ => ⟨S64x1, .f32⟩
  | .hbm, ⟨2, _⟩ => ⟨S64, .f32⟩
  | .hbm, ⟨3, _⟩ => ⟨S256x64, .f32⟩
  | .hbm, ⟨4, _⟩ => ⟨S128x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S20x20, .f32⟩
  | .hbm, ⟨16, _⟩ => ⟨S20x1, .f32⟩
  | .hbm, ⟨17, _⟩ => ⟨S1x64, .f32⟩
  | .hbm, ⟨18, _⟩ => ⟨S1x64, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S20x20, .f32⟩
  | .hbm, ⟨30, _⟩ => ⟨S20x20, .f32⟩
  | .hbm, ⟨31, _⟩ => ⟨S4096x128, .f32⟩
  | .local _ .vmem, ⟨0, _⟩ => ⟨S2048x20, .f32⟩
  | .local _ .vmem, ⟨1, _⟩ => ⟨S2048x20, .f32⟩
  | .local _ .vmem, ⟨2, _⟩ => ⟨S1x64, .f32⟩
  | .local _ .vmem, ⟨3, _⟩ => ⟨S1x64, .f32⟩
  | .local _ .vmem, ⟨4, _⟩ => ⟨S256x64, .f32⟩
  | .local _ .vmem, ⟨5, _⟩ => ⟨S128x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S20x20, .f32⟩
  | .local _ .vmem, ⟨17, _⟩ => ⟨S2048x128, .f32⟩
  | .local _ .vmem, ⟨18, _⟩ => ⟨S2048x128, .f32⟩
  | .local _ .vmem, ⟨19, _⟩ => ⟨S128x256, .bf16⟩
  | .local _ .vmem, ⟨20, _⟩ => ⟨S256x64, .bf16⟩
  | .local _ .vmem, ⟨21, _⟩ => ⟨S1x128, .f32⟩
  | _, _ => ⟨S4096x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_cst_0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S20x20 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2048x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "inv_nodes" => some ((1 / 20 : ℝ) : EReal)
  | _ => none
-- ==== ReferenceIdeal.lean ====
abbrev S4096x20 : Shape := ⟨2, ![4096, 20]⟩
abbrev S64x1 : Shape := ⟨2, ![64, 1]⟩
abbrev S64 : Shape := ⟨1, ![64]⟩
abbrev S256x64 : Shape := ⟨2, ![256, 64]⟩
abbrev S128x256 : Shape := ⟨2, ![128, 256]⟩
abbrev S256 : Shape := ⟨1, ![256]⟩
abbrev S128 : Shape := ⟨1, ![128]⟩
abbrev S140 : Shape := ⟨1, ![140]⟩
abbrev S81920x1 : Shape := ⟨2, ![81920, 1]⟩
abbrev S1x64 : Shape := ⟨2, ![1, 64]⟩
abbrev S81920x64 : Shape := ⟨2, ![81920, 64]⟩
abbrev S_ : Shape := ⟨0, ![]⟩
abbrev S64x256 : Shape := ⟨2, ![64, 256]⟩
abbrev S81920x256 : Shape := ⟨2, ![81920, 256]⟩
abbrev S81920x4x64 : Shape := ⟨3, ![81920, 4, 64]⟩
abbrev S140x1 : Shape := ⟨2, ![140, 1]⟩
abbrev S1 : Shape := ⟨1, ![1]⟩
abbrev S1x1 : Shape := ⟨2, ![1, 1]⟩
abbrev S140x4x64 : Shape := ⟨3, ![140, 4, 64]⟩
abbrev S81920 : Shape := ⟨1, ![81920]⟩
abbrev S81920x1x1 : Shape := ⟨3, ![81920, 1, 1]⟩
abbrev S1x256 : Shape := ⟨2, ![1, 256]⟩
abbrev S256x128 : Shape := ⟨2, ![256, 128]⟩
abbrev S81920x128 : Shape := ⟨2, ![81920, 128]⟩
abbrev S81920x4x32 : Shape := ⟨3, ![81920, 4, 32]⟩
abbrev S140x4x32 : Shape := ⟨3, ![140, 4, 32]⟩
abbrev S1x128 : Shape := ⟨2, ![1, 128]⟩
abbrev S4096x20x128 : Shape := ⟨3, ![4096, 20, 128]⟩
abbrev S4096x128 : Shape := ⟨2, ![4096, 128]⟩
abbrev S4096 : Shape := ⟨1, ![4096]⟩
abbrev S4096x1 : Shape := ⟨2, ![4096, 1]⟩

abbrev nBuf : Space → Nat
  | .hbm => 249
  | .vmem => 0
  | .smem => 0
  | _ => 0

abbrev hbmTy0_0 (i : Nat) : BufTy := match i % 128 with
  | 0 => ⟨S4096x20, .f32⟩
  | 1 => ⟨S64x1, .f32⟩
  | 2 => ⟨S64, .f32⟩
  | 3 => ⟨S256x64, .f32⟩
  | 4 => ⟨S128x256, .f32⟩
  | 5 => ⟨S256, .f32⟩
  | 6 => ⟨S256, .f32⟩
  | 7 => ⟨S256, .f32⟩
  | 8 => ⟨S256, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S140, .i32⟩
  | 16 => ⟨S140, .i32⟩
  | 17 => ⟨S81920x1, .f32⟩
  | 18 => ⟨S1x64, .f32⟩
  | 19 => ⟨S81920x64, .f32⟩
  | 20 => ⟨S1x64, .f32⟩
  | 21 => ⟨S81920x64, .f32⟩
  | 22 => ⟨S81920x64, .f32⟩
  | 23 => ⟨S_, .f32⟩
  | 24 => ⟨S81920x64, .f32⟩
  | 25 => ⟨S81920x64, .f32⟩
  | 26 => ⟨S64x256, .f32⟩
  | 27 => ⟨S81920x256, .f32⟩
  | 28 => ⟨S81920x4x64, .f32⟩
  | 29 => ⟨S_, .i32⟩
  | 30 => ⟨S140, .i32⟩
  | 31 => ⟨S140, .i1⟩
  | 32 => ⟨S_, .i32⟩
  | 33 => ⟨S140, .i32⟩
  | 34 => ⟨S140, .i32⟩
  | 35 => ⟨S140, .i32⟩
  | 36 => ⟨S140x1, .i32⟩
  | 37 => ⟨S1, .i32⟩
  | 38 => ⟨S_, .i32⟩
  | 39 => ⟨S140x1, .i32⟩
  | 40 => ⟨S140x1, .i1⟩
  | 41 => ⟨S1x1, .i32⟩
  | 42 => ⟨S140x1, .i32⟩
  | 43 => ⟨S140x1, .i1⟩
  | 44 => ⟨S140x1, .i1⟩
  | 45 => ⟨S_, .i1⟩
  | 46 => ⟨S140, .i1⟩
  | 47 => ⟨S140x4x64, .f32⟩
  | 48 => ⟨S140x4x64, .i1⟩
  | 49 => ⟨S_, .f32⟩
  | 50 => ⟨S140x4x64, .f32⟩
  | 51 => ⟨S140x4x64, .f32⟩
  | 52 => ⟨S_, .f32⟩
  | 53 => ⟨S81920x4x64, .f32⟩
  | 54 => ⟨S_, .i32⟩
  | 55 => ⟨S140, .i32⟩
  | 56 => ⟨S140, .i1⟩
  | 57 => ⟨S_, .i32⟩
  | 58 => ⟨S140, .i32⟩
  | 59 => ⟨S140, .i32⟩
  | 60 => ⟨S140, .i32⟩
  | 61 => ⟨S140x1, .i32⟩
  | 62 => ⟨S81920x4x64, .f32⟩
  | 63 => ⟨S_, .f32⟩
  | 64 => ⟨S81920, .f32⟩
  | 65 => ⟨S_, .i32⟩
  | 66 => ⟨S140, .i32⟩
  | 67 => ⟨S140, .i1⟩
  | 68 => ⟨S_, .i32⟩
  | 69 => ⟨S140, .i32⟩
  | 70 => ⟨S140, .i32⟩
  | 71 => ⟨S140, .i32⟩
  | 72 => ⟨S140x1, .i32⟩
  | 73 => ⟨S_, .f32⟩
  | 74 => ⟨S140, .f32⟩
  | 75 => ⟨S81920, .f32⟩
  | 76 => ⟨S_, .f32⟩
  | 77 => ⟨S81920, .f32⟩
  | 78 => ⟨S81920, .f32⟩
  | 79 => ⟨S81920x1x1, .f32⟩
  | 80 => ⟨S81920x4x64, .f32⟩
  | 81 => ⟨S81920x4x64, .f32⟩
  | 82 => ⟨S_, .f32⟩
  | 83 => ⟨S81920, .f32⟩
  | 84 => ⟨S81920, .i1⟩
  | 85 => ⟨S81920x1x1, .i1⟩
  | 86 => ⟨S81920x4x64, .i1⟩
  | 87 => ⟨S81920x4x64, .f32⟩
  | 88 => ⟨S81920x256, .f32⟩
  | 89 => ⟨S_, .f32⟩
  | 90 => ⟨S81920x256, .f32⟩
  | 91 => ⟨S81920x256, .i1⟩
  | 92 => ⟨S_, .f32⟩
  | 93 => ⟨S81920x256, .f32⟩
  | 94 => ⟨S81920x256, .i1⟩
  | 95 => ⟨S_, .f32⟩
  | 96 => ⟨S_, .f32⟩
  | 97 => ⟨S81920x256, .f32⟩
  | 98 => ⟨S81920x256, .f32⟩
  | 99 => ⟨S81920x256, .f32⟩
  | 100 => ⟨S_, .f32⟩
  | 101 => ⟨S81920x256, .f32⟩
  | 102 => ⟨S81920x256, .f32⟩
  | 103 => ⟨S81920x256, .f32⟩
  | 104 => ⟨S1x256, .f32⟩
  | 105 => ⟨S81920x256, .f32⟩
  | 106 => ⟨S81920x256, .f32⟩
  | 107 => ⟨S_, .f32⟩
  | 108 => ⟨S256, .f32⟩
  | 109 => ⟨S256, .f32⟩
  | 110 => ⟨S256, .f32⟩
  | 111 => ⟨S1x256, .f32⟩
  | 112 => ⟨S81920x256, .f32⟩
  | 113 => ⟨S81920x256, .f32⟩
  | 114 => ⟨S1x256, .f32⟩
  | 115 => ⟨S81920x256, .f32⟩
  | 116 => ⟨S81920x256, .f32⟩
  | 117 => ⟨S1x256, .f32⟩
  | 118 => ⟨S81920x256, .f32⟩
  | 119 => ⟨S81920x256, .f32⟩
  | 120 => ⟨S256x128, .f32⟩
  | 121 => ⟨S81920x128, .f32⟩
  | 122 => ⟨S81920x4x32, .f32⟩
  | 123 => ⟨S_, .i32⟩
  | 124 => ⟨S140, .i32⟩
  | 125 => ⟨S140, .i1⟩
  | 126 => ⟨S_, .i32⟩
  | 127 => ⟨S140, .i32⟩
  | _ => ⟨S4096x20, .f32⟩

abbrev hbmTy0_1 (i : Nat) : BufTy := match i % 128 with
  | 0 => ⟨S140, .i32⟩
  | 1 => ⟨S140, .i32⟩
  | 2 => ⟨S140x1, .i32⟩
  | 3 => ⟨S1, .i32⟩
  | 4 => ⟨S_, .i32⟩
  | 5 => ⟨S140x1, .i32⟩
  | 6 => ⟨S140x1, .i1⟩
  | 7 => ⟨S1x1, .i32⟩
  | 8 => ⟨S140x1, .i32⟩
  | 9 => ⟨S140x1, .i1⟩
  | 10 => ⟨S140x1, .i1⟩
  | 11 => ⟨S_, .i1⟩
  | 12 => ⟨S140, .i1⟩
  | 13 => ⟨S140x4x32, .f32⟩
  | 14 => ⟨S140x4x32, .i1⟩
  | 15 => ⟨S_, .f32⟩
  | 16 => ⟨S140x4x32, .f32⟩
  | 17 => ⟨S140x4x32, .f32⟩
  | 18 => ⟨S_, .f32⟩
  | 19 => ⟨S81920x4x32, .f32⟩
  | 20 => ⟨S_, .i32⟩
  | 21 => ⟨S140, .i32⟩
  | 22 => ⟨S140, .i1⟩
  | 23 => ⟨S_, .i32⟩
  | 24 => ⟨S140, .i32⟩
  | 25 => ⟨S140, .i32⟩
  | 26 => ⟨S140, .i32⟩
  | 27 => ⟨S140x1, .i32⟩
  | 28 => ⟨S81920x4x32, .f32⟩
  | 29 => ⟨S_, .f32⟩
  | 30 => ⟨S81920, .f32⟩
  | 31 => ⟨S_, .i32⟩
  | 32 => ⟨S140, .i32⟩
  | 33 => ⟨S140, .i1⟩
  | 34 => ⟨S_, .i32⟩
  | 35 => ⟨S140, .i32⟩
  | 36 => ⟨S140, .i32⟩
  | 37 => ⟨S140, .i32⟩
  | 38 => ⟨S140x1, .i32⟩
  | 39 => ⟨S_, .f32⟩
  | 40 => ⟨S140, .f32⟩
  | 41 => ⟨S81920, .f32⟩
  | 42 => ⟨S_, .f32⟩
  | 43 => ⟨S81920, .f32⟩
  | 44 => ⟨S81920, .f32⟩
  | 45 => ⟨S81920x1x1, .f32⟩
  | 46 => ⟨S81920x4x32, .f32⟩
  | 47 => ⟨S81920x4x32, .f32⟩
  | 48 => ⟨S_, .f32⟩
  | 49 => ⟨S81920, .f32⟩
  | 50 => ⟨S81920, .i1⟩
  | 51 => ⟨S81920x1x1, .i1⟩
  | 52 => ⟨S81920x4x32, .i1⟩
  | 53 => ⟨S81920x4x32, .f32⟩
  | 54 => ⟨S81920x128, .f32⟩
  | 55 => ⟨S_, .f32⟩
  | 56 => ⟨S81920x128, .f32⟩
  | 57 => ⟨S81920x128, .i1⟩
  | 58 => ⟨S_, .f32⟩
  | 59 => ⟨S81920x128, .f32⟩
  | 60 => ⟨S81920x128, .i1⟩
  | 61 => ⟨S_, .f32⟩
  | 62 => ⟨S_, .f32⟩
  | 63 => ⟨S81920x128, .f32⟩
  | 64 => ⟨S81920x128, .f32⟩
  | 65 => ⟨S81920x128, .f32⟩
  | 66 => ⟨S_, .f32⟩
  | 67 => ⟨S81920x128, .f32⟩
  | 68 => ⟨S81920x128, .f32⟩
  | 69 => ⟨S81920x128, .f32⟩
  | 70 => ⟨S1x128, .f32⟩
  | 71 => ⟨S81920x128, .f32⟩
  | 72 => ⟨S81920x128, .f32⟩
  | 73 => ⟨S_, .f32⟩
  | 74 => ⟨S128, .f32⟩
  | 75 => ⟨S128, .f32⟩
  | 76 => ⟨S128, .f32⟩
  | 77 => ⟨S1x128, .f32⟩
  | 78 => ⟨S81920x128, .f32⟩
  | 79 => ⟨S81920x128, .f32⟩
  | 80 => ⟨S1x128, .f32⟩
  | 81 => ⟨S81920x128, .f32⟩
  | 82 => ⟨S81920x128, .f32⟩
  | 83 => ⟨S1x128, .f32⟩
  | 84 => ⟨S81920x128, .f32⟩
  | 85 => ⟨S81920x128, .f32⟩
  | 86 => ⟨S4096x20x128, .f32⟩
  | 87 => ⟨S_, .f32⟩
  | 88 => ⟨S4096x128, .f32⟩
  | 89 => ⟨S_, .f32⟩
  | 90 => ⟨S4096x128, .f32⟩
  | 91 => ⟨S4096x128, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S4096x128, .f32⟩
  | 99 => ⟨S4096x128, .f32⟩
  | 100 => ⟨S4096x128, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S4096x128, .f32⟩
  | 108 => ⟨S4096x128, .f32⟩
  | 109 => ⟨S_, .f32⟩
  | 110 => ⟨S4096x1, .f32⟩
  | 111 => ⟨S4096x1, .f32⟩
  | 112 => ⟨S4096x1, .f32⟩
  | 113 => ⟨S4096x128, .f32⟩
  | 114 => ⟨S4096x128, .f32⟩
  | 115 => ⟨S1x128, .f32⟩
  | 116 => ⟨S4096x128, .f32⟩
  | 117 => ⟨S4096x128, .f32⟩
  | 118 => ⟨S1x128, .f32⟩
  | 119 => ⟨S4096x128, .f32⟩
  | 120 => ⟨S4096x128, .f32⟩
  | _ => ⟨S4096x20, .f32⟩

abbrev hbmTy (i : Nat) : BufTy := match i / 128 with
  | 0 => hbmTy0_0 i
  | 1 => hbmTy0_1 i
  | _ => ⟨S4096x20, .f32⟩

abbrev bufTy : (tb : Table) → Fin (tcTables nBuf tb) → BufTy
  | .hbm, ⟨i, _⟩ => hbmTy i
  | _, _ => ⟨S4096x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call0_cst : Ref sig .tc := ⟨.hbm, 23, rfl⟩
abbrev main_call0_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v10 : Ref sig .tc := ⟨.hbm, 51, rfl⟩
abbrev main_cst : Ref sig .tc := ⟨.hbm, 52, rfl⟩
abbrev main_v11 : Ref sig .tc := ⟨.hbm, 53, rfl⟩
abbrev main_c_1 : Ref sig .tc := ⟨.hbm, 54, rfl⟩
abbrev main_v12 : Ref sig .tc := ⟨.hbm, 55, rfl⟩
abbrev main_v13 : Ref sig .tc := ⟨.hbm, 56, rfl⟩
abbrev main_c_2 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_cst_3 : Ref sig .tc := ⟨.hbm, 63, rfl⟩
abbrev main_v19 : Ref sig .tc := ⟨.hbm, 64, rfl⟩
abbrev main_c_4 : Ref sig .tc := ⟨.hbm, 65, rfl⟩
abbrev main_v20 : Ref sig .tc := ⟨.hbm, 66, rfl⟩
abbrev main_v21 : Ref sig .tc := ⟨.hbm, 67, rfl⟩
abbrev main_c_5 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_cst_6 : Ref sig .tc := ⟨.hbm, 73, rfl⟩
abbrev main_v26 : Ref sig .tc := ⟨.hbm, 74, rfl⟩
abbrev main_v27 : Ref sig .tc := ⟨.hbm, 75, rfl⟩
abbrev main_cst_7 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_8 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_call2_v0 : Ref sig .tc := ⟨.hbm, 86, rfl⟩
abbrev main_v36 : Ref sig .tc := ⟨.hbm, 87, rfl⟩
abbrev main_v37 : Ref sig .tc := ⟨.hbm, 88, rfl⟩
abbrev main_call3_cst : Ref sig .tc := ⟨.hbm, 89, rfl⟩
abbrev main_call3_v0 : Ref sig .tc := ⟨.hbm, 90, rfl⟩
abbrev main_call3_v1 : Ref sig .tc := ⟨.hbm, 91, rfl⟩
abbrev main_call3_cst_0 : Ref sig .tc := ⟨.hbm, 92, rfl⟩
abbrev main_call3_v2 : Ref sig .tc := ⟨.hbm, 93, rfl⟩
abbrev main_call3_v3 : Ref sig .tc := ⟨.hbm, 94, rfl⟩
abbrev main_call3_cst_1 : Ref sig .tc := ⟨.hbm, 95, rfl⟩
abbrev main_call3_call0_v0 : Ref sig .tc := ⟨.hbm, 96, rfl⟩
abbrev main_call3_call0_v1 : Ref sig .tc := ⟨.hbm, 97, rfl⟩
abbrev main_call3_v4 : Ref sig .tc := ⟨.hbm, 98, rfl⟩
abbrev main_call3_v5 : Ref sig .tc := ⟨.hbm, 99, rfl⟩
abbrev main_call3_cst_2 : Ref sig .tc := ⟨.hbm, 100, rfl⟩
abbrev main_call3_v6 : Ref sig .tc := ⟨.hbm, 101, rfl⟩
abbrev main_call3_v7 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_9 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_call4_c : Ref sig .tc := ⟨.hbm, 123, rfl⟩
abbrev main_call4_v0 : Ref sig .tc := ⟨.hbm, 124, rfl⟩
abbrev main_call4_v1 : Ref sig .tc := ⟨.hbm, 125, rfl⟩
abbrev main_call4_c_0 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_v5 : Ref sig .tc := ⟨.hbm, 130, rfl⟩
abbrev main_call4_c_1 : Ref sig .tc := ⟨.hbm, 131, rfl⟩
abbrev main_call4_c_2 : Ref sig .tc := ⟨.hbm, 132, rfl⟩
abbrev main_call4_v6 : Ref sig .tc := ⟨.hbm, 133, rfl⟩
abbrev main_call4_v7 : Ref sig .tc := ⟨.hbm, 134, rfl⟩
abbrev main_call4_v8 : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_c_3 : Ref sig .tc := ⟨.hbm, 139, rfl⟩
abbrev main_call4_v12 : Ref sig .tc := ⟨.hbm, 140, rfl⟩
abbrev main_call4_v13 : Ref sig .tc := ⟨.hbm, 141, rfl⟩
abbrev main_call4_v14 : Ref sig .tc := ⟨.hbm, 142, rfl⟩
abbrev main_call4_cst : Ref sig .tc := ⟨.hbm, 143, rfl⟩
abbrev main_call4_v15 : Ref sig .tc := ⟨.hbm, 144, rfl⟩
abbrev main_v57 : Ref sig .tc := ⟨.hbm, 145, rfl⟩
abbrev main_cst_10 : Ref sig .tc := ⟨.hbm, 146, rfl⟩
abbrev main_v58 : Ref sig .tc := ⟨.hbm, 147, rfl⟩
abbrev main_c_11 : Ref sig .tc := ⟨.hbm, 148, rfl⟩
abbrev main_v59 : Ref sig .tc := ⟨.hbm, 149, rfl⟩
abbrev main_v60 : Ref sig .tc := ⟨.hbm, 150, rfl⟩
abbrev main_c_12 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_cst_13 : Ref sig .tc := ⟨.hbm, 157, rfl⟩
abbrev main_v66 : Ref sig .tc := ⟨.hbm, 158, rfl⟩
abbrev main_c_14 : Ref sig .tc := ⟨.hbm, 159, rfl⟩
abbrev main_v67 : Ref sig .tc := ⟨.hbm, 160, rfl⟩
abbrev main_v68 : Ref sig .tc := ⟨.hbm, 161, rfl⟩
abbrev main_c_15 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_cst_16 : Ref sig .tc := ⟨.hbm, 167, rfl⟩
abbrev main_v73 : Ref sig .tc := ⟨.hbm, 168, rfl⟩
abbrev main_v74 : Ref sig .tc := ⟨.hbm, 169, rfl⟩
abbrev main_cst_17 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_cst_18 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_call5_v0 : Ref sig .tc := ⟨.hbm, 180, rfl⟩
abbrev main_v83 : Ref sig .tc := ⟨.hbm, 181, rfl⟩
abbrev main_v84 : Ref sig .tc := ⟨.hbm, 182, rfl⟩
abbrev main_call6_cst : Ref sig .tc := ⟨.hbm, 183, rfl⟩
abbrev main_call6_v0 : Ref sig .tc := ⟨.hbm, 184, rfl⟩
abbrev main_call6_v1 : Ref sig .tc := ⟨.hbm, 185, rfl⟩
abbrev main_call6_cst_0 : Ref sig .tc := ⟨.hbm, 186, rfl⟩
abbrev main_call6_v2 : Ref sig .tc := ⟨.hbm, 187, rfl⟩
abbrev main_call6_v3 : Ref sig .tc := ⟨.hbm, 188, rfl⟩
abbrev main_call6_cst_1 : Ref sig .tc := ⟨.hbm, 189, rfl⟩
abbrev main_call6_call0_v0 : Ref sig .tc := ⟨.hbm, 190, rfl⟩
abbrev main_call6_call0_v1 : Ref sig .tc := ⟨.hbm, 191, rfl⟩
abbrev main_call6_v4 : Ref sig .tc := ⟨.hbm, 192, rfl⟩
abbrev main_call6_v5 : Ref sig .tc := ⟨.hbm, 193, rfl⟩
abbrev main_call6_cst_2 : Ref sig .tc := ⟨.hbm, 194, rfl⟩
abbrev main_call6_v6 : Ref sig .tc := ⟨.hbm, 195, rfl⟩
abbrev main_call6_v7 : Ref sig .tc := ⟨.hbm, 196, rfl⟩
abbrev main_v85 : Ref sig .tc := ⟨.hbm, 197, rfl⟩
abbrev main_v86 : Ref sig .tc := ⟨.hbm, 198, rfl⟩
abbrev main_v87 : Ref sig .tc := ⟨.hbm, 199, rfl⟩
abbrev main_v88 : Ref sig .tc := ⟨.hbm, 200, rfl⟩
abbrev main_cst_19 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_v95 : Ref sig .tc := ⟨.hbm, 208, rfl⟩
abbrev main_v96 : Ref sig .tc := ⟨.hbm, 209, rfl⟩
abbrev main_v97 : Ref sig .tc := ⟨.hbm, 210, rfl⟩
abbrev main_v98 : Ref sig .tc := ⟨.hbm, 211, rfl⟩
abbrev main_v99 : Ref sig .tc := ⟨.hbm, 212, rfl⟩
abbrev main_v100 : Ref sig .tc := ⟨.hbm, 213, rfl⟩
abbrev main_v101 : Ref sig .tc := ⟨.hbm, 214, rfl⟩
abbrev main_cst_20 : Ref sig .tc := ⟨.hbm, 215, rfl⟩
abbrev main_v102 : Ref sig .tc := ⟨.hbm, 216, rfl⟩
abbrev main_cst_21 : Ref sig .tc := ⟨.hbm, 217, rfl⟩
abbrev main_v103 : Ref sig .tc := ⟨.hbm, 218, rfl⟩
abbrev main_v104 : Ref sig .tc := ⟨.hbm, 219, rfl⟩
abbrev main_cst_22 : Ref sig .tc := ⟨.hbm, 220, rfl⟩
abbrev main_v105 : Ref sig .tc := ⟨.hbm, 221, rfl⟩
abbrev main_v106 : Ref sig .tc := ⟨.hbm, 222, rfl⟩
abbrev main_cst_23 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_cst_24 : Ref sig .tc := ⟨.hbm, 229, rfl⟩
abbrev main_v112 : Ref sig .tc := ⟨.hbm, 230, rfl⟩
abbrev main_v113 : Ref sig .tc := ⟨.hbm, 231, rfl⟩
abbrev main_cst_25 : Ref sig .tc := ⟨.hbm, 232, rfl⟩
abbrev main_v114 : Ref sig .tc := ⟨.hbm, 233, rfl⟩
abbrev main_v115 : Ref sig .tc := ⟨.hbm, 234, rfl⟩
abbrev main_v116 : Ref sig .tc := ⟨.hbm, 235, rfl⟩
abbrev main_v117 : Ref sig .tc := ⟨.hbm, 236, rfl⟩
abbrev main_cst_26 : Ref sig .tc := ⟨.hbm, 237, rfl⟩
abbrev main_v118 : Ref sig .tc := ⟨.hbm, 238, rfl⟩
abbrev main_v119 : Ref sig .tc := ⟨.hbm, 239, rfl⟩
abbrev main_v120 : Ref sig .tc := ⟨.hbm, 240, rfl⟩
abbrev main_v121 : Ref sig .tc := ⟨.hbm, 241, rfl⟩
abbrev main_v122 : Ref sig .tc := ⟨.hbm, 242, rfl⟩
abbrev main_v123 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_v128 : Ref sig .tc := ⟨.hbm, 248, rfl⟩

abbrev nD : Nat := 1
abbrev τ : Topo := Topo.v7x

variable {F : FTy → Type} [FloatOps F]
-- ==== Proof.Consts.lean ====
/- The numbers the two programs write down, as extended reals. -/
module

public import Idealize.ShloMosaic.PureOps
public import Idealize.ShloMosaic.PureOps.IdealRules
public import proofs.«01_k».proof.KernelIdeal

@[expose] public section

noncomputable section

namespace Cert.Consts

open Idealize.ShloMosaic

/-- The number both programs add under a square root, about 1e-5. -/
def eps : ℝ := 10995116 / 2 ^ 40

theorem eps_pos : 0 < eps := by unfold eps; positivity

theorem f32_zero : (FloatOps.ofBits (F := Ideal) .f32 0x00000000#32) = ((0 : ℝ) : EReal) := by
  simp [Ideal.ofBits, Ideal.ieee, -EReal.coe_mul]

theorem f32_one : (FloatOps.ofBits (F := Ideal) .f32 0x3F800000#32) = ((1 : ℝ) : EReal) := by
  simp [Ideal.ofBits, Ideal.ieee, -EReal.coe_mul]; norm_num

theorem bf16_zero : (FloatOps.ofBits (F := Ideal) .bf16 0x0000#16) = ((0 : ℝ) : EReal) := by
  simp [Ideal.ofBits, Ideal.ieee, -EReal.coe_mul]

theorem bf16_one : (FloatOps.ofBits (F := Ideal) .bf16 0x3F80#16) = ((1 : ℝ) : EReal) := by
  simp [Ideal.ofBits, Ideal.ieee, -EReal.coe_mul]; norm_num

theorem f32_eps : (FloatOps.ofBits (F := Ideal) .f32 0x3727C5AC#32) = ((eps : ℝ) : EReal) := by
  unfold eps
  simp [Ideal.ofBits, Ideal.ieee, -EReal.coe_mul]; norm_num

theorem f32_128th : (FloatOps.ofBits (F := Ideal) .f32 0x3C000000#32) = ((1 / 128 : ℝ) : EReal) := by
  simp [Ideal.ofBits, Ideal.ieee, -EReal.coe_mul]; norm_num

theorem f32_20 : (FloatOps.ofBits (F := Ideal) .f32 0x41A00000#32) = ((20 : ℝ) : EReal) := by
  simp [Ideal.ofBits, Ideal.ieee, -EReal.coe_mul]; norm_num

theorem f32_128 : (FloatOps.ofBits (F := Ideal) .f32 0x43000000#32) = ((128 : ℝ) : EReal) := by
  simp [Ideal.ofBits, Ideal.ieee, -EReal.coe_mul]; norm_num

theorem f32_inf : (FloatOps.ofBits (F := Ideal) .f32 0x7F800000#32) = (⊤ : EReal) := by
  simp [Ideal.ofBits, Ideal.ieee, -EReal.coe_mul]

/-- The encodings of the numbers of neighbours that occur. -/
def degreeBits : ℕ → BitVec 32
  | 4 => 0x40800000#32 | 5 => 0x40A00000#32 | 6 => 0x40C00000#32 | 7 => 0x40E00000#32 | _ => 0x41000000#32

theorem f32_degree (k : ℕ) (h4 : 4 ≤ k) (h8 : k ≤ 8) : (FloatOps.ofBits (F := Ideal) .f32 (degreeBits k)) = ((k : ℝ) : EReal) := by
  interval_cases k <;> simp [degreeBits, Ideal.ofBits, Ideal.ieee, -EReal.coe_mul] <;> norm_num

/-- One twentieth, by its name. -/
theorem inv_nodes : Named.named (F := Ideal) (φ := .f32) Cert.KernelIdeal.κ "inv_nodes" 0x3D4CCCCD#32 = ((1 / 20 : ℝ) : EReal) :=
  IdealRules.named_const.ideal_named_scalar _ _ _ _ rfl

end Cert.Consts
-- ==== Proof.Lift.lean ====
/- Arrays of finite values. `up f` is the array of extended reals whose elements are the real numbers `f i`; the
   theorems below say that an operation applied to such arrays gives such an array again, and which real numbers it
   holds. Both programs are read by rewriting with these facts. -/
module

public import Idealize.ShloMosaic.PureOps
public import Idealize.ShloMosaic.Lib.MatmulPlain
public import Idealize.ShloMosaic.Lib.IdealHost

@[expose] public section

noncomputable section

namespace Cert.Lift

open Idealize.ShloMosaic
open scoped BigOperators

variable {s t : Shape} {φ : FTy}

/-- The array of extended reals holding the real numbers `f i`. -/
def up {ι : Type} (f : ι → ℝ) : ι → EReal := fun i => ((f i : ℝ) : EReal)

theorem up_apply {ι : Type} (f : ι → ℝ) (i : ι) : up f i = ((f i : ℝ) : EReal) := rfl

/-- The exponential linear unit on the reals. -/
def elu (r : ℝ) : ℝ := if 0 < r then r else Real.exp r - 1

/-- A finite sum of reals, seen among the extended reals. -/
theorem coe_sum {ι : Type} (S : Finset ι) (f : ι → ℝ) : ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-! ## Element by element -/

theorem addf_up (f g : s.Idx → ℝ) : (addf (F := Ideal) (φ := φ) (up f) (up g)) = up fun i => f i + g i :=
  funext fun i => (EReal.coe_add (f i) (g i)).symm

theorem subf_up (f g : s.Idx → ℝ) : (subf (F := Ideal) (φ := φ) (up f) (up g)) = up fun i => f i - g i :=
  funext fun i => (EReal.coe_sub (f i) (g i)).symm

theorem mulf_up (f g : s.Idx → ℝ) : (mulf (F := Ideal) (φ := φ) (up f) (up g)) = up fun i => f i * g i :=
  funext fun i => (EReal.coe_mul (f i) (g i)).symm

theorem maximumf_up (f g : s.Idx → ℝ) : (maximumf (F := Ideal) (φ := φ) (up f) (up g)) = up fun i => max (f i) (g i) :=
  funext fun i => (EReal.coe_strictMono.monotone.map_max (a := f i) (b := g i)).symm

theorem exp_up (f : s.Idx → ℝ) : (exp (F := Ideal) (φ := φ) (up f)) = up fun i => Real.exp (f i) := rfl

theorem expm1_up (f : s.Idx → ℝ) : (Host.expm1 (F := Ideal) (φ := φ) (up f)) = up fun i => Real.exp (f i) - 1 :=
  funext fun i => (EReal.coe_sub (Real.exp (f i)) 1).symm

theorem truncf_up {ψ : FTy} (f : s.Idx → ℝ) (h : ψ.bits < φ.bits) : (truncf (F := Ideal) (φ := φ) ψ (up f) h) = up f := rfl

/-- Division by real numbers that are not zero. -/
theorem hostDivf_up (f g : s.Idx → ℝ) (hg : ∀ i, g i ≠ 0) :
    (Host.divf (F := Ideal) (φ := φ) (up f) (up g)) = up fun i => f i / g i := by
  funext i
  show Ideal.div ((f i : ℝ) : EReal) ((g i : ℝ) : EReal) = _
  rw [Ideal.div_coe (hg i), ← EReal.coe_mul, up_apply, mul_one_div]

/-- A choice between two arrays of reals by which of two others is larger. -/
theorem select_ogt_up (f g a b : s.Idx → ℝ) :
    select (cmpf (F := Ideal) (φ := φ) .ogt (up f) (up g)) (up a) (up b) = up fun i => if g i < f i then a i else b i := by
  funext i
  show Scalar.select (Ideal.cmp .ogt ((f i : ℝ) : EReal) ((g i : ℝ) : EReal)) ((a i : ℝ) : EReal) ((b i : ℝ) : EReal) = _
  rw [up_apply]
  by_cases h : g i < f i
  · rw [if_pos h]; simp [Ideal.cmp, Scalar.select, h]
  · rw [if_neg h]; simp [Ideal.cmp, Scalar.select, h]

/-- The exponential linear unit as both programs write it: `x` where `x > 0`, `exp x - 1` elsewhere. -/
theorem elu_up (f : s.Idx → ℝ) :
    select (cmpf (F := Ideal) (φ := φ) .ogt (up f) (up fun _ => 0)) (up f) (up fun i => Real.exp (f i) - 1) = up fun i => elu (f i) :=
  select_ogt_up f _ f _

/-! ## Constants and shapes -/

theorem broadcast_up (r : ℝ) : broadcast s ((r : ℝ) : EReal) = up fun _ => r := rfl

theorem broadcastTo_up (f : s.Idx → ℝ) (h : s.Broadcasts t) : broadcastTo t (up f) h = up (broadcastTo t f h) := rfl

theorem broadcastInDim_up (dims : Fin s.rank → Fin t.rank) (h : s.BroadcastsInDim t dims) (f : s.Idx → ℝ) :
    broadcastInDim t dims h (up f) = up (broadcastInDim t dims h f) := rfl

theorem shapeCast_up (f : s.Idx → ℝ) (h : s.ShapeCasts t) : shapeCast t (up f) h = up (shapeCast t f h) := rfl

theorem shapeCast_self_up (f : s.Idx → ℝ) (h : s.ShapeCasts s) : shapeCast s (up f) h = up f := by
  funext i; show up f (Shape.reshapeEquiv h i) = _; rw [Shape.reshapeEquiv_self]

end Cert.Lift
-- ==== Proof.KernelOps.lean ====
/- The kernel's computation on one block, written once over the operations it is made of: the stages one node's
   column passes through, the sum over the twenty nodes, the normalization at the end, and the separate treatment
   of the first sample, whose nodes exchange messages. `M` is the number of rows treated together. -/
module

public import Idealize.ShloMosaic.PureOps
public import Idealize.ShloMosaic.Lib.MatmulPlain

@[expose] public section

noncomputable section

namespace Cert.KernelOps

open Idealize.ShloMosaic

/-- Extended-real matrices of `M` rows and `N` columns, held in the format `φ`. -/
abbrev Mat (M N : ℕ) (φ : FTy) : Type := FVec Ideal ⟨2, ![M, N]⟩ φ

/-- One row can be repeated to `M` rows. -/
theorem row_broadcasts (M N : ℕ) : (⟨2, ![1, N]⟩ : Shape).Broadcasts ⟨2, ![M, N]⟩ :=
  ⟨le_rfl, fun a => match a with
    | ⟨0, _⟩ => Or.inl rfl
    | ⟨1, _⟩ => Or.inr fun _ => rfl⟩

/-- A matrix passed to the 16-bit format. -/
def lowV {M N : ℕ} (x : Mat M N .f32) : Mat M N .bf16 := truncf .bf16 x (by decide)

/-- Column `n` of a matrix is a slice of it. -/
theorem col_slices (M N n : ℕ) (h : n < N) : (⟨2, ![M, N]⟩ : Shape).Slices ![0, n] ⟨2, ![M, 1]⟩ :=
  ⟨rfl, fun a => match a with
    | ⟨0, _⟩ => (Nat.zero_add M).le
    | ⟨1, _⟩ => h⟩

/-- The row `v` repeated to `M` rows. -/
def rows (M : ℕ) {N : ℕ} {φ : FTy} (v : Mat 1 N φ) : Mat M N φ := broadcastTo ⟨2, ![M, N]⟩ v (row_broadcasts M N)

/-- The exponential linear unit, `zero` and `one` being the format's encodings of 0 and 1. -/
def eluV {s : Shape} {φ : FTy} (zero one : BitVec φ.bits) (v : FVec Ideal s φ) : FVec Ideal s φ :=
  select (cmpf .ogt v (broadcast s (Scalar.ofBits φ zero))) v (subf (exp v) (broadcast s (Scalar.ofBits φ one)))

/-- The input projection and its rectifier. -/
def hidV (M : ℕ) (pw pb : Mat 1 64 .f32) (x : Mat M 1 .f32) : Mat M 64 .bf16 :=
  truncf .bf16 (maximumf (addf (matmul (DotDims.plain M 1 64) none x pw (constant _ .f32 0x00000000#32)) (rows M pb))
    (broadcast _ (Scalar.ofBits .f32 0x00000000#32))) (by decide)

/-- The first attention layer's linear map, applied to the projection. -/
def firstV (M : ℕ) (pw pb : Mat 1 64 .f32) (W1 : Mat 256 64 .bf16) (x : Mat M 1 .f32) : Mat M 256 .f32 :=
  matmul (DotDims.transposedRhs M 64 256) none (hidV M pw pb x) W1 (constant _ .f32 0x00000000#32)

/-- The exponential linear unit, then the second layer's linear map with the first normalization folded into it. -/
def secondV (M : ℕ) (W2 : Mat 128 256 .bf16) (B : Mat 1 128 .f32) (u : Mat M 256 .f32) : Mat M 128 .f32 :=
  addf (matmul (DotDims.transposedRhs M 256 128) none (eluV 0x0000#16 0x3F80#16 (truncf .bf16 u (by decide))) W2
    (constant _ .f32 0x00000000#32)) (rows M B)

/-- One node without messages, from its column of the input. -/
def nodeV (M : ℕ) (pw pb : Mat 1 64 .f32) (W1 : Mat 256 64 .bf16) (W2 : Mat 128 256 .bf16) (B : Mat 1 128 .f32)
    (x : Mat M 1 .f32) : Mat M 128 .f32 :=
  eluV 0x00000000#32 0x3F800000#32 (secondV M W2 B (firstV M pw pb W1 x))

/-- The sum of the nodes `0, …, n`. -/
def accV (M : ℕ) (pw pb : Mat 1 64 .f32) (W1 : Mat 256 64 .bf16) (W2 : Mat 128 256 .bf16) (B : Mat 1 128 .f32)
    (x : Mat M 20 .f32) : (n : ℕ) → n < 20 → Mat M 128 .f32
  | 0, h => nodeV M pw pb W1 W2 B (extractStridedSlice ⟨2, ![M, 1]⟩ ![0, 0] x (col_slices M 20 0 h))
  | n + 1, h => addf (accV M pw pb W1 W2 B x n (Nat.lt_of_succ_lt h))
      (nodeV M pw pb W1 W2 B (extractStridedSlice ⟨2, ![M, 1]⟩ ![0, n + 1] x (col_slices M 20 (n + 1) h)))

/-- A normalization's factor: the learned scale over the square root of the running variance plus epsilon. -/
def scaleV {N : ℕ} (g rv : Mat 1 N .f32) : Mat 1 N .f32 :=
  mulf g (rsqrt (addf rv (broadcast _ (Scalar.ofBits .f32 0x3727C5AC#32))))

/-- A normalization's offset. -/
def shiftV {N : ℕ} (b rm s : Mat 1 N .f32) : Mat 1 N .f32 := subf b (mulf rm s)

/-- The first normalization's factor folded into the second layer's weights. -/
def foldW (g2 : Mat 128 256 .f32) (s : Mat 1 256 .f32) : Mat 128 256 .bf16 := truncf .bf16 (mulf g2 (rows 128 s)) (by decide)

/-- The first normalization's offset carried through the second layer's weights. -/
def foldB (g2 : Mat 128 256 .f32) (t : Mat 1 256 .f32) : Mat 1 128 .f32 :=
  matmul (DotDims.transposedRhs 1 256 128) none t g2 (constant _ .f32 0x00000000#32)

/-- The mean over a row, every entry of the row receiving it. -/
def meanV (M : ℕ) (z : Mat M 128 .f32) : Mat M 128 .f32 :=
  matmul (DotDims.plain M 128 128) none z (broadcast _ (Scalar.ofBits .f32 0x3C000000#32)) (constant _ .f32 0x00000000#32)

/-- The layer normalization with learned scale `g` and offset `b`. -/
def normV (M : ℕ) (z g b : Mat M 128 .f32) : Mat M 128 .f32 :=
  addf (mulf (mulf (subf z (meanV M z)) (rsqrt (addf (subf (meanV M (mulf z z)) (mulf (meanV M z) (meanV M z)))
    (broadcast _ (Scalar.ofBits .f32 0x3727C5AC#32))))) g) b

/-- The block's result but for the first sample: mean over the nodes, second normalization, layer normalization;
    `inv` is one twentieth. -/
def blockV (M : ℕ) (inv : EReal) (pw pb : Mat 1 64 .f32) (W1 : Mat 256 64 .bf16) (W2 : Mat 128 256 .bf16)
    (B s t lg lb : Mat 1 128 .f32) (x : Mat M 20 .f32) : Mat M 128 .f32 :=
  normV M (addf (mulf (mulf (accV M pw pb W1 W2 B x 19 (by decide)) (broadcast _ inv)) (rows M s)) (rows M t)) (rows M lg) (rows M lb)

/-- The first sample's nodes as a column: the block's rows contracted with the indicator of row 0. -/
def pickV (M : ℕ) (d : DotDims ⟨2, ![M, 20]⟩ ⟨2, ![M, 1]⟩ ⟨2, ![20, 1]⟩) (h : (⟨2, ![M, 1]⟩ : Shape).Iotas .tc 32 [0])
    (x : Mat M 20 .f32) : Mat 20 1 .f32 :=
  matmul d none x (sitofp .f32 (extui 32 (cmpi .eq (iota .tc ⟨2, ![M, 1]⟩ 32 [0] h) (broadcast _ 0#32)) (by decide)))
    (constant _ .f32 0x00000000#32)

/-- The first sample's result: as for the others, with the nodes' averages `A` taken in both layers. -/
def firstSampleV (inv : EReal) (pw pb : Mat 1 64 .f32) (W1 : Mat 256 64 .bf16) (W2 : Mat 128 256 .bf16)
    (B s t lg lb : Mat 1 128 .f32) (A : Mat 20 20 .f32) (x : Mat 20 1 .f32) : Mat 1 128 .f32 :=
  normV 1 (addf (mulf (matmul (DotDims.plain 1 20 128) none (broadcast _ inv : Mat 1 20 .f32)
    (eluV 0x00000000#32 0x3F800000#32 (matmul (DotDims.plain 20 20 128) none A
      (secondV 20 W2 B (matmul (DotDims.plain 20 20 256) none A (firstV 20 pw pb W1 x) (constant _ .f32 0x00000000#32)))
      (constant _ .f32 0x00000000#32))) (constant _ .f32 0x00000000#32)) s) t) lg lb

/-! ## Reading a program text as these functions

Each statement below is true by definition; rewriting with all of them, innermost first, turns the operations of the
printed program into the functions above. -/

section Fold

variable {M N : ℕ} {φ : FTy} {s : Shape}

/-- Repeating a row. -/
theorem fold_rows (v : Mat 1 N φ) (h : (⟨2, ![1, N]⟩ : Shape).Broadcasts ⟨2, ![M, N]⟩) :
    broadcastTo ⟨2, ![M, N]⟩ v h = rows M v := rfl

/-- The exponential linear unit. -/
theorem fold_elu (zero one : BitVec φ.bits) (v : FVec Ideal s φ) :
    select (cmpf .ogt v (broadcast s (FloatOps.ofBits φ zero))) v (subf (exp v) (broadcast s (FloatOps.ofBits φ one)))
      = eluV zero one v := rfl

/-- The input projection. -/
theorem fold_hid (pw pb : Mat 1 64 .f32) (x : Mat M 1 .f32) (h : FTy.bits .bf16 < FTy.bits .f32) :
    truncf .bf16 (maximumf (addf (matmul (DotDims.plain M 1 64) none x pw (constant _ .f32 0x00000000#32)) (rows M pb))
      (broadcast _ (FloatOps.ofBits .f32 0x00000000#32))) h = hidV M pw pb x := rfl

/-- The first layer's linear map. -/
theorem fold_first (pw pb : Mat 1 64 .f32) (W1 : Mat 256 64 .bf16) (x : Mat M 1 .f32) :
    matmul (DotDims.transposedRhs M 64 256) none (hidV M pw pb x) W1 (constant _ .f32 0x00000000#32) = firstV M pw pb W1 x := rfl

/-- The second layer's linear map. -/
theorem fold_second (W2 : Mat 128 256 .bf16) (B : Mat 1 128 .f32) (u : Mat M 256 .f32) (h : FTy.bits .bf16 < FTy.bits .f32) :
    addf (matmul (DotDims.transposedRhs M 256 128) none (eluV 0x0000#16 0x3F80#16 (truncf .bf16 u h)) W2
      (constant _ .f32 0x00000000#32)) (rows M B) = secondV M W2 B u := rfl

/-- A normalization's factor. -/
theorem fold_scale (g rv : Mat 1 N .f32) :
    mulf g (rsqrt (addf rv (broadcast _ (FloatOps.ofBits .f32 0x3727C5AC#32)))) = scaleV g rv := rfl

/-- A normalization's offset. -/
theorem fold_shift (b rm g rv : Mat 1 N .f32) : subf b (mulf rm (scaleV g rv)) = shiftV b rm (scaleV g rv) := rfl

/-- A row's mean. -/
theorem fold_mean (z : Mat M 128 .f32) :
    matmul (DotDims.plain M 128 128) none z (broadcast _ (FloatOps.ofBits .f32 0x3C000000#32)) (constant _ .f32 0x00000000#32)
      = meanV M z := rfl

/-- The layer normalization. -/
theorem fold_norm (z g b : Mat M 128 .f32) :
    addf (mulf (mulf (subf z (meanV M z)) (rsqrt (addf (subf (meanV M (mulf z z)) (mulf (meanV M z) (meanV M z)))
      (broadcast _ (FloatOps.ofBits .f32 0x3727C5AC#32))))) g) b = normV M z g b := rfl

/-- One node. -/
theorem fold_node (pw pb : Mat 1 64 .f32) (W1 : Mat 256 64 .bf16) (W2 : Mat 128 256 .bf16) (B : Mat 1 128 .f32) (x : Mat M 1 .f32) :
    eluV 0x00000000#32 0x3F800000#32 (secondV M W2 B (firstV M pw pb W1 x)) = nodeV M pw pb W1 W2 B x := rfl

end Fold

end Cert.KernelOps
-- ==== Proof.Matrix.lean ====
/- Matrices of finite values, by row and column: what products, repeated rows and column slices of them hold. -/
module

public import proofs.«01_k».proof.Proof.Consts
public import proofs.«01_k».proof.Proof.Lift
public import proofs.«01_k».proof.Proof.KernelOps
public import Idealize.ShloMosaic.Lib.Pipeline.Value

@[expose] public section

noncomputable section

namespace Cert.Lift

open Idealize.ShloMosaic Idealize.ShloMosaic.ValueIdx Cert.KernelOps
open scoped BigOperators

variable {M K N : ℕ} {φ ψ : FTy}

/-- The matrix whose entry at row `r` and column `c` is the real number `A r c`. -/
def matUp (A : Fin M → Fin N → ℝ) : (⟨2, ![M, N]⟩ : Shape).Idx → EReal := up fun i => A (i 0) (i 1)

theorem matUp_apply (A : Fin M → Fin N → ℝ) (r : Fin M) (c : Fin N) : matUp A (ix2 r c) = ((A r c : ℝ) : EReal) := rfl

/-- Two matrices with the same entries are equal. -/
theorem matUp_ext (X : (⟨2, ![M, N]⟩ : Shape).Idx → EReal) (A : Fin M → Fin N → ℝ) (h : ∀ r c, X (ix2 r c) = ((A r c : ℝ) : EReal)) :
    X = matUp A := by
  funext i
  rw [eq_ix2 i]
  exact h (i 0) (i 1)

theorem addf_mat (A B : Fin M → Fin N → ℝ) : addf (F := Ideal) (φ := φ) (matUp A) (matUp B) = matUp fun r c => A r c + B r c := addf_up _ _
theorem subf_mat (A B : Fin M → Fin N → ℝ) : subf (F := Ideal) (φ := φ) (matUp A) (matUp B) = matUp fun r c => A r c - B r c := subf_up _ _
theorem mulf_mat (A B : Fin M → Fin N → ℝ) : mulf (F := Ideal) (φ := φ) (matUp A) (matUp B) = matUp fun r c => A r c * B r c := mulf_up _ _
theorem maximumf_mat (A B : Fin M → Fin N → ℝ) : maximumf (F := Ideal) (φ := φ) (matUp A) (matUp B) = matUp fun r c => max (A r c) (B r c) :=
  maximumf_up _ _
theorem truncf_mat (A : Fin M → Fin N → ℝ) (h : ψ.bits < φ.bits) : truncf (F := Ideal) (φ := φ) ψ (matUp A) h = matUp A := rfl

/-- The matrix all of whose entries are the real number `a`. -/
theorem broadcast_mat (e : EReal) (a : ℝ) (h : e = ((a : ℝ) : EReal)) : broadcast (⟨2, ![M, N]⟩ : Shape) e = matUp fun _ _ => a := by
  rw [h]; rfl

/-- A row of finite values, repeated. -/
theorem rows_mat (v : Fin 1 → Fin N → ℝ) : rows (φ := φ) M (matUp v) = matUp fun _ c => v 0 c := by
  refine matUp_ext _ _ fun r c => ?_
  refine broadcastTo_apply _ _ _ (ix2 0 c) fun a => ?_
  match a with
  | ⟨0, _⟩ => rfl
  | ⟨1, _⟩ =>
    show c.val = if N = 1 then 0 else c.val
    split
    · have := c.isLt; omega
    · rfl

/-- The product of two matrices of finite values. -/
theorem matmul_mat (A : Fin M → Fin K → ℝ) (B : Fin K → Fin N → ℝ) :
    matmul (F := Ideal) (φ₁ := φ) (φ₂ := ψ) (DotDims.plain M K N) none (matUp A) (matUp B) (constant _ .f32 0x00000000#32)
      = matUp fun r c => ∑ k, A r k * B k c := by
  refine matUp_ext _ _ fun r c => (Ideal.matmul_plain_apply _ _ _ _ r c).trans ?_
  show FloatOps.ofBits .f32 0x00000000#32 + _ = _
  rw [Consts.f32_zero, coe_sum, EReal.coe_zero, zero_add]
  exact Finset.sum_congr rfl fun k _ => (EReal.coe_mul _ _).symm

/-- The product of a matrix with a transposed one, of finite values. -/
theorem matmul_mat_tr (A : Fin M → Fin K → ℝ) (B : Fin N → Fin K → ℝ) :
    matmul (F := Ideal) (φ₁ := φ) (φ₂ := ψ) (DotDims.transposedRhs M K N) none (matUp A) (matUp B) (constant _ .f32 0x00000000#32)
      = matUp fun r c => ∑ k, A r k * B c k := by
  refine matUp_ext _ _ fun r c => (Ideal.matmul_transposedRhs_apply _ _ _ _ r c).trans ?_
  show FloatOps.ofBits .f32 0x00000000#32 + _ = _
  rw [Consts.f32_zero, coe_sum, EReal.coe_zero, zero_add]
  exact Finset.sum_congr rfl fun k _ => (EReal.coe_mul _ _).symm

/-- A column of a matrix of finite values. -/
theorem slice_mat (A : Fin M → Fin N → ℝ) (n : ℕ) (h : n < N) :
    extractStridedSlice ⟨2, ![M, 1]⟩ ![0, n] (matUp A) (col_slices M N n h) = matUp fun r _ => A r ⟨n, h⟩ := by
  refine matUp_ext _ _ fun r c => ?_
  show matUp A _ = matUp A (ix2 r ⟨n, h⟩)
  congr 1
  funext a
  match a with
  | ⟨0, _⟩ => exact Fin.ext (Nat.zero_add _)
  | ⟨1, _⟩ => exact Fin.ext (show n + c.val = n by have := c.isLt; omega)

/-- The exponential linear unit of a matrix of finite values. -/
theorem eluV_mat (zero one : BitVec φ.bits) (A : Fin M → Fin N → ℝ) (hz : FloatOps.ofBits (F := Ideal) φ zero = ((0 : ℝ) : EReal))
    (ho : FloatOps.ofBits (F := Ideal) φ one = ((1 : ℝ) : EReal)) : eluV zero one (matUp A) = matUp fun r c => elu (A r c) := by
  unfold eluV
  show select (cmpf .ogt _ (broadcast _ (FloatOps.ofBits (F := Ideal) φ zero))) _ (subf _ (broadcast _ (FloatOps.ofBits (F := Ideal) φ one))) = _
  rw [broadcast_mat _ 0 hz, broadcast_mat _ 1 ho]
  unfold matUp
  rw [exp_up, subf_up]
  exact elu_up _

end Cert.Lift
-- ==== Proof.Model.lean ====
/- The network as real-number mathematics: nodes 0..19 in a band graph, two graph layers, two normalizations, the mean
   over the nodes and a layer normalization. Each stage is stated as the reference computes it; where the kernel
   computes the same number in another way, that way is stated too and proved equal. -/
module

public import proofs.«01_k».proof.Proof.Lift

@[expose] public section

noncomputable section

namespace Cert.Model

open Cert.Lift
open scoped BigOperators

/-- The learned numbers of the network: the input projection, the two layers' weights, and each normalization's scale,
    offset, running mean and inverse standard deviation. -/
structure Net where
  pw : Fin 64 → ℝ
  pb : Fin 64 → ℝ
  g1 : Fin 256 → Fin 64 → ℝ
  g2 : Fin 128 → Fin 256 → ℝ
  a1 : Fin 256 → ℝ
  c1 : Fin 256 → ℝ
  m1 : Fin 256 → ℝ
  r1 : Fin 256 → ℝ
  a2 : Fin 128 → ℝ
  c2 : Fin 128 → ℝ
  m2 : Fin 128 → ℝ
  r2 : Fin 128 → ℝ

variable (P : Net)

/-- The neighbours of a node: the other nodes at distance at most 4. -/
def nb (n : Fin 20) : Finset (Fin 20) :=
  Finset.univ.filter fun m => m ≠ n ∧ m.val ≤ n.val + 4 ∧ n.val ≤ m.val + 4

/-- The mean of a quantity over the neighbours of a node. -/
def avg (f : Fin 20 → ℝ) (n : Fin 20) : ℝ := (∑ m ∈ nb n, f m) / ((nb n).card : ℝ)

/-- The mean over the neighbours as a product with the row of an averaging matrix. -/
theorem avg_eq_sum (f : Fin 20 → ℝ) (n : Fin 20) :
    ∑ m, (if m ∈ nb n then 1 else 0) / ((nb n).card : ℝ) * f m = avg f n := by
  unfold avg
  rw [Finset.sum_div, ← Finset.sum_filter_add_sum_filter_not Finset.univ (· ∈ nb n)]
  rw [Finset.sum_eq_zero (s := Finset.univ.filter fun m => ¬ m ∈ nb n), add_zero]
  · rw [Finset.filter_mem_eq_inter, Finset.univ_inter]
    exact Finset.sum_congr rfl fun m hm => by rw [if_pos hm]; ring
  · intro m hm
    rw [if_neg (Finset.mem_filter.1 hm).2]; ring

/-- The rectified projection of one input number. -/
def hid (x : ℝ) (k : Fin 64) : ℝ := max (x * P.pw k + P.pb k) 0

/-- The first layer's linear map. -/
def lin1 (x : ℝ) (j : Fin 256) : ℝ := ∑ k, hid P x k * P.g1 j k

/-- The first normalization. -/
def bn1 (e : ℝ) (j : Fin 256) : ℝ := (e - P.m1 j) * P.r1 j * P.a1 j + P.c1 j

/-- The second layer's linear map, after the exponential linear unit and the first normalization. -/
def lin2 (u : Fin 256 → ℝ) (o : Fin 128) : ℝ := ∑ j, bn1 P (elu (u j)) j * P.g2 o j

/-- The second layer with the first normalization folded into its weights and offset. -/
theorem lin2_folded (u : Fin 256 → ℝ) (o : Fin 128) :
    ∑ j, elu (u j) * (P.g2 o j * (P.a1 j * P.r1 j)) + ∑ j, (P.c1 j - P.m1 j * (P.a1 j * P.r1 j)) * P.g2 o j = lin2 P u o := by
  rw [← Finset.sum_add_distrib]
  exact Finset.sum_congr rfl fun j _ => by unfold bn1; ring

/-- The second normalization. -/
def bn2 (e : ℝ) (o : Fin 128) : ℝ := (e - P.m2 o) * P.r2 o * P.a2 o + P.c2 o

/-- The mean over the nodes of the normalized second layer. -/
def pool (v : Fin 20 → Fin 128 → ℝ) (o : Fin 128) : ℝ := (∑ n, bn2 P (elu (v n o)) o) / 20

/-- The second normalization taken after the mean. -/
theorem pool_folded (v : Fin 20 → Fin 128 → ℝ) (o : Fin 128) :
    (∑ n, elu (v n o)) * (1 / 20) * (P.a2 o * P.r2 o) + (P.c2 o - P.m2 o * (P.a2 o * P.r2 o)) = pool P v o := by
  have h : ∀ n, bn2 P (elu (v n o)) o = elu (v n o) * (P.a2 o * P.r2 o) + (P.c2 o - P.m2 o * (P.a2 o * P.r2 o)) :=
    fun n => by unfold bn2; ring
  unfold pool
  rw [Finset.sum_congr rfl fun n _ => h n, Finset.sum_add_distrib, ← Finset.sum_mul, Finset.sum_const, Finset.card_univ,
    Fintype.card_fin, nsmul_eq_mul]
  push_cast; ring

/-- A sample without messages: the second layer's output at node `n`. -/
def plain (x : Fin 20 → ℝ) (n : Fin 20) (o : Fin 128) : ℝ := lin2 P (lin1 P (x n)) o

/-- The sample with messages: both layers' outputs are averaged over the neighbours. -/
def mixed (x : Fin 20 → ℝ) (n : Fin 20) (o : Fin 128) : ℝ :=
  avg (fun m => lin2 P (fun j => avg (fun l => lin1 P (x l) j) m) o) n

/-- Only sample 0 has messages. -/
def nodes (b : ℕ) (x : Fin 20 → ℝ) : Fin 20 → Fin 128 → ℝ := if b = 0 then mixed P x else plain P x

/-- The mean of a row of 128 numbers. -/
def mean (z : Fin 128 → ℝ) : ℝ := (∑ o, z o) / 128

/-- The variance of a row of 128 numbers. -/
def var (z : Fin 128 → ℝ) : ℝ := (∑ o, (z o - mean z) * (z o - mean z)) / 128

/-- The variance as the mean of the squares less the square of the mean. -/
theorem var_eq (z : Fin 128 → ℝ) : ∑ o, z o * z o * (1 / 128) - mean z * mean z = var z := by
  have h : ∑ o, (z o - mean z) * (z o - mean z) = ∑ o, z o * z o - 2 * mean z * ∑ o, z o + 128 * (mean z * mean z) := by
    rw [Finset.sum_congr rfl fun o _ => show (z o - mean z) * (z o - mean z) = z o * z o - 2 * mean z * z o + mean z * mean z by ring,
      Finset.sum_add_distrib, Finset.sum_sub_distrib, ← Finset.mul_sum, Finset.sum_const, Finset.card_univ, Fintype.card_fin, nsmul_eq_mul]
    push_cast; rfl
  have hm : ∑ o, z o = 128 * mean z := by unfold mean; ring
  unfold var
  rw [h, hm, ← Finset.sum_mul]; ring

theorem var_nonneg (z : Fin 128 → ℝ) : 0 ≤ var z :=
  div_nonneg (Finset.sum_nonneg fun o _ => mul_self_nonneg _) (by norm_num)

/-- The layer normalization before its scale and offset, `e` being the number added to the variance. -/
def ln (e : ℝ) (z : Fin 128 → ℝ) (o : Fin 128) : ℝ := (z o - mean z) / √(var z + e)

/-- The layer normalization before its scale and offset, of sample `b` with the inputs `x`. -/
def result (e : ℝ) (b : ℕ) (x : Fin 20 → ℝ) (o : Fin 128) : ℝ := ln e (pool P (nodes P b x)) o

end Cert.Model
-- ==== Proof.Finite.lean ====
/- Arguments with finite values: the fifteen argument arrays hold given real numbers, but for the running variances,
   of which only the inverse square root is given, and the last normalization's scale and offset, of which nothing is. -/
module

public import proofs.«01_k».proof.Proof.Matrix
public import proofs.«01_k».proof.Proof.Model

@[expose] public section

noncomputable section

namespace Cert.Finite

open Idealize.ShloMosaic Idealize.ShloMosaic.ValueIdx Cert.Lift Cert.Model

/-- Extended-real vectors and matrices. -/
abbrev V1 (N : ℕ) : Type := (⟨1, ![N]⟩ : Shape).Idx → EReal
abbrev V2 (M N : ℕ) : Type := (⟨2, ![M, N]⟩ : Shape).Idx → EReal

/-- The vector of the real numbers `v`. -/
def vecUp {N : ℕ} (v : Fin N → ℝ) : V1 N := up fun i => v (i 0)

/-- A running variance whose inverse square root, epsilon added, is `r`: multiplying by that and dividing by the square
    root are both multiplication by `r`. -/
structure InvStd {N : ℕ} (v : V1 N) (r : Fin N → ℝ) : Prop where
  rsqrt : ∀ j, Ideal.rsqrt (v (ix1 j) + ((Consts.eps : ℝ) : EReal)) = ((r j : ℝ) : EReal)
  div : ∀ j (y : ℝ), Ideal.div ((y : ℝ) : EReal) (Ideal.sqrt (v (ix1 j) + ((Consts.eps : ℝ) : EReal))) = ((y * r j : ℝ) : EReal)

/-- The arguments hold the numbers of the network `P` and of the samples `X`. -/
structure Holds (P : Net) (X : Fin 4096 → Fin 20 → ℝ) (x : V2 4096 20) (pw : V2 64 1) (pb : V1 64) (g1 : V2 256 64) (g2 : V2 128 256)
    (a1 c1 m1 v1 : V1 256) (a2 c2 m2 v2 : V1 128) : Prop where
  x : x = matUp X
  pw : pw = matUp fun k _ => P.pw k
  pb : pb = vecUp P.pb
  g1 : g1 = matUp P.g1
  g2 : g2 = matUp P.g2
  a1 : a1 = vecUp P.a1
  c1 : c1 = vecUp P.c1
  m1 : m1 = vecUp P.m1
  v1 : InvStd v1 P.r1
  a2 : a2 = vecUp P.a2
  c2 : c2 = vecUp P.c2
  m2 : m2 = vecUp P.m2
  v2 : InvStd v2 P.r2

end Cert.Finite
-- ==== Proof.KernelReal.lean ====
/- The kernel's block computation on finite values: each stage of KernelOps gives the numbers of Model. -/
module

public import proofs.«01_k».proof.Proof.Matrix
public import proofs.«01_k».proof.Proof.Model

@[expose] public section

noncomputable section

namespace Cert.KernelReal

open Idealize.ShloMosaic Idealize.ShloMosaic.ValueIdx Cert.KernelOps Cert.Lift Cert.Model
open scoped BigOperators

variable (P : Net) {M : ℕ}

/-- A row of finite values. -/
abbrev rowUp {N : ℕ} (v : Fin N → ℝ) : (⟨2, ![1, N]⟩ : Shape).Idx → EReal := matUp fun _ c => v c

/-- A column of finite values. -/
abbrev colUp (v : Fin M → ℝ) : (⟨2, ![M, 1]⟩ : Shape).Idx → EReal := matUp fun r _ => v r

/-- The first layer's linear map. -/
theorem firstV_real (x : Fin M → ℝ) :
    firstV M (rowUp P.pw) (rowUp P.pb) (matUp P.g1) (colUp x) = matUp fun r j => lin1 P (x r) j := by
  have hh : hidV M (rowUp P.pw) (rowUp P.pb) (colUp x) = matUp fun r k => hid P (x r) k := by
    unfold hidV
    rw [matmul_mat, rows_mat, addf_mat]
    refine (congrArg (fun z => truncf .bf16 (maximumf _ z) _) (broadcast_mat _ 0 Consts.f32_zero)).trans ?_
    rw [maximumf_mat, truncf_mat]
    refine congrArg matUp (funext₂ fun r k => ?_)
    rw [Fin.sum_univ_one]; rfl
  unfold firstV
  rw [hh, matmul_mat_tr]
  rfl

/-- The numbers the second layer's weights hold after folding. -/
def w2 (o : Fin 128) (j : Fin 256) : ℝ := P.g2 o j * (P.a1 j * P.r1 j)

/-- The offset the second layer has after folding. -/
def b2 (o : Fin 128) : ℝ := ∑ j, (P.c1 j - P.m1 j * (P.a1 j * P.r1 j)) * P.g2 o j

/-- The second layer. -/
theorem secondV_real (u : Fin M → Fin 256 → ℝ) :
    secondV M (matUp (w2 P)) (rowUp (b2 P)) (matUp u) = matUp fun r o => lin2 P (u r) o := by
  unfold secondV
  rw [truncf_mat, eluV_mat _ _ _ Consts.bf16_zero Consts.bf16_one,
    matmul_mat_tr, rows_mat, addf_mat]
  exact congrArg matUp (funext₂ fun r o => lin2_folded P (u r) o)

/-- One node without messages. -/
theorem nodeV_real (x : Fin M → ℝ) :
    nodeV M (rowUp P.pw) (rowUp P.pb) (matUp P.g1) (matUp (w2 P)) (rowUp (b2 P)) (colUp x)
      = matUp fun r o => elu (lin2 P (lin1 P (x r)) o) := by
  unfold nodeV
  rw [firstV_real, secondV_real, eluV_mat _ _ _ Consts.f32_zero Consts.f32_one]

/-- The sum of the first nodes. -/
theorem accV_real (x : Fin M → Fin 20 → ℝ) (n : ℕ) (h : n < 20) :
    accV M (rowUp P.pw) (rowUp P.pb) (matUp P.g1) (matUp (w2 P)) (rowUp (b2 P)) (matUp x) n h
      = matUp fun r o => ∑ k : Fin (n + 1), elu (plain P (x r) ⟨k.val, by omega⟩ o) := by
  induction n with
  | zero =>
    unfold accV
    rw [slice_mat, nodeV_real]
    refine congrArg matUp (funext₂ fun r o => ?_)
    rw [Fin.sum_univ_one]; rfl
  | succ n ih =>
    unfold accV
    rw [slice_mat, nodeV_real, ih, addf_mat]
    refine congrArg matUp (funext₂ fun r o => ?_)
    rw [Fin.sum_univ_castSucc (n := n + 1)]; rfl

/-- The inverse square root of positive numbers. -/
theorem rsqrt_mat {N : ℕ} {φ : FTy} (A : Fin M → Fin N → ℝ) (h : ∀ r c, 0 < A r c) :
    rsqrt (F := Ideal) (φ := φ) (matUp A) = matUp fun r c => (√(A r c))⁻¹ := by
  refine matUp_ext _ _ fun r c => ?_
  show Ideal.rsqrt ((A r c : ℝ) : EReal) = _
  rw [Ideal.rsqrt_coe, if_neg (h r c).le.not_gt, if_neg (h r c).ne']

/-- The layer normalization of finite values; the learned scale and offset may be any extended reals. -/
theorem normV_real (z : Fin M → Fin 128 → ℝ) (g b : (⟨2, ![M, 128]⟩ : Shape).Idx → EReal) (r : Fin M) (o : Fin 128) :
    normV M (matUp z) g b (ix2 r o) = ((ln Consts.eps (z r) o : ℝ) : EReal) * g (ix2 r o) + b (ix2 r o) := by
  have hm : ∀ y : Fin M → Fin 128 → ℝ, meanV M (matUp y) = matUp fun r _ => ∑ c, y r c * (1 / 128) := by
    intro y
    unfold meanV
    refine (congrArg (fun w => matmul _ _ _ w _) (broadcast_mat _ (1 / 128) Consts.f32_128th)).trans ?_
    rw [matmul_mat]
  have hz : ∀ r, ∑ c, z r c * (1 / 128) = mean (z r) := fun r => by unfold mean; rw [← Finset.sum_mul]; ring
  have hn : mulf (subf (matUp z) (meanV M (matUp z))) (rsqrt (addf (subf (meanV M (mulf (matUp z) (matUp z)))
      (mulf (meanV M (matUp z)) (meanV M (matUp z)))) (broadcast _ (Scalar.ofBits .f32 0x3727C5AC#32))))
      = (matUp fun r o => ln Consts.eps (z r) o : FVec Ideal _ .f32) := by
    rw [mulf_mat, hm, hm, mulf_mat, subf_mat, subf_mat]
    refine (congrArg (fun w => mulf _ (rsqrt (addf _ w))) (broadcast_mat _ Consts.eps Consts.f32_eps)).trans ?_
    simp only [hz, var_eq]
    rw [addf_mat, rsqrt_mat _ fun r _ => add_pos_of_nonneg_of_pos (var_nonneg _) Consts.eps_pos, mulf_mat]
    rfl
  unfold normV
  rw [hn]
  rfl

/-- A block's row, from its row of the input, for samples without messages. -/
theorem blockV_real (lg lb : (⟨2, ![1, 128]⟩ : Shape).Idx → EReal) (x : Fin M → Fin 20 → ℝ) (b : ℕ) (hb : b ≠ 0) (r : Fin M) (o : Fin 128) :
    blockV M (((1 / 20 : ℝ)) : EReal) (rowUp P.pw) (rowUp P.pb) (matUp P.g1) (matUp (w2 P)) (rowUp (b2 P))
        (rowUp fun o => P.a2 o * P.r2 o) (rowUp fun o => P.c2 o - P.m2 o * (P.a2 o * P.r2 o)) lg lb (matUp x) (ix2 r o)
      = ((result P Consts.eps b (x r) o : ℝ) : EReal) * rows (φ := .f32) M lg (ix2 r o) + rows (φ := .f32) M lb (ix2 r o) := by
  unfold blockV
  rw [accV_real, broadcast_mat _ (1 / 20) rfl, rows_mat, rows_mat, mulf_mat, mulf_mat, addf_mat, normV_real]
  unfold result nodes
  rw [if_neg hb, show Model.pool P (plain P (x r)) = _ from funext fun c => (pool_folded P (plain P (x r)) c).symm]

/-- The averaging matrix of the band graph. -/
def avgMat (n m : Fin 20) : ℝ := (if m ∈ nb n then 1 else 0) / ((nb n).card : ℝ)

/-- The first sample's result. -/
theorem firstSampleV_real (lg lb : (⟨2, ![1, 128]⟩ : Shape).Idx → EReal) (x : Fin 20 → ℝ) (o : Fin 128) :
    firstSampleV (((1 / 20 : ℝ)) : EReal) (rowUp P.pw) (rowUp P.pb) (matUp P.g1) (matUp (w2 P)) (rowUp (b2 P))
        (rowUp fun o => P.a2 o * P.r2 o) (rowUp fun o => P.c2 o - P.m2 o * (P.a2 o * P.r2 o)) lg lb (matUp avgMat) (colUp x) (ix2 0 o)
      = ((result P Consts.eps 0 x o : ℝ) : EReal) * lg (ix2 0 o) + lb (ix2 0 o) := by
  unfold firstSampleV
  rw [firstV_real, matmul_mat, secondV_real, matmul_mat, eluV_mat _ _ _ Consts.f32_zero Consts.f32_one, broadcast_mat _ (1 / 20) rfl,
    matmul_mat, mulf_mat, addf_mat, normV_real]
  unfold result nodes
  rw [if_pos rfl, show Model.pool P (mixed P x) = _ from funext fun c => (pool_folded P (mixed P x) c).symm]
  simp only [avgMat, avg_eq_sum, mixed, Finset.sum_mul, mul_comm (1 / 20 : ℝ)]

end Cert.KernelReal
-- ==== Proof.KernelBlock.lean ====
/- What one grid point of the kernel leaves: the result block and the three carried arrays, in the terms of
   `KernelOps`. -/
module

public import proofs.«01_k».proof.Proof.Gen.KernelIdeal.Value
public import proofs.«01_k».proof.Proof.KernelOps
public import Idealize.ShloMosaic.Lib.Pipeline.Value
public import Idealize.ShloMosaic.Lib.WritesUnit

@[expose] public section

noncomputable section

namespace Cert.KernelIdeal.BlockValue

open Idealize.ShloMosaic Idealize.ShloMosaic.TcCoe Idealize.ShloMosaic.Tactic
open Idealize.ShloMosaic.ValueIdx
open Cert.KernelIdeal Cert.KernelIdeal.Gen Cert.KernelOps

/-- One twentieth, as the kernel names it. -/
abbrev inv : EReal := Named.named (F := Ideal) (φ := .f32) Cert.KernelIdeal.κ "inv_nodes" 0x3D4CCCCD#32

/-- A load of the whole of an array held at contents `X` reads `X`. -/
theorem read_whole {sp : Space} {S : Shape} {e : EltTy} {m : Memref sig .tc sp S e} (h : m.IsWhole) (X : Vec Ideal S e)
    {off : Fin S.rank → ℕ} (ho : off = fun _ => 0) (inb : ∀ a, off a + S.size a ≤ S.size a) :
    View.readAt (Elt Ideal) m.view (Rect.unit off S.size inb).toLoadRect (h.unread X) = X := by
  rw [View.readAt_eq_ld, h.read_unread, View.ld_unit_zero ho]

/-- The zero offsets of a matrix. -/
theorem zeros : (![0, 0] : Fin 2 → ℕ) = fun _ => 0 := by decide

/-- Reshaping an array to its own shape changes nothing. -/
theorem shapeCast_self {S : Shape} {α : Type} (X : S.Idx → α) (h : S.ShapeCasts S) : shapeCast S X h = X := by
  funext i; show X (Shape.reshapeEquiv h i) = _; rw [Shape.reshapeEquiv_self]

/-- After one store over the whole of an array, the array holds what was stored. -/
theorem write_whole {sp : Space} {S : Shape} {e : EltTy} (v : View sig .tc sp S e) (f : v.ty.Contents (Elt Ideal))
    {off : Fin S.rank → ℕ} (ho : off = fun _ => 0) (inb : ∀ a, off a + S.size a ≤ S.size a) (w : Vec Ideal S e) :
    v.read (Elt Ideal) (v.writes (Elt Ideal) f [⟨Rect.unit off S.size inb, w⟩]) = w := by
  rw [View.read_writes_eq_canon _ _ _ fun y => ⟨_, List.mem_singleton_self _, by
    subst ho; show y ∈ (Rect.whole S).set; rw [Rect.set_whole]; exact Finset.mem_univ y⟩]
  exact View.canon_unit_zero ho inb w

/-! The kernel's matrix products are the plain ones and those with a transposed right operand. -/

theorem dot_plain_2048_1_64 : dot_S2048x1_S1x64_S2048x64_1_0_0_1_n_n = DotDims.plain 2048 1 64 := rfl
theorem dot_transposedRhs_2048_64_256 : dot_S2048x64_S256x64_S2048x256_1_1_0_0_n_n = DotDims.transposedRhs 2048 64 256 := rfl
theorem dot_transposedRhs_2048_256_128 : dot_S2048x256_S128x256_S2048x128_1_1_0_0_n_n = DotDims.transposedRhs 2048 256 128 := rfl
theorem dot_plain_2048_128_128 : dot_S2048x128_S128x128_S2048x128_1_0_0_1_n_n = DotDims.plain 2048 128 128 := rfl
theorem dot_plain_20_1_64 : dot_S20x1_S1x64_S20x64_1_0_0_1_n_n = DotDims.plain 20 1 64 := rfl
theorem dot_transposedRhs_20_64_256 : dot_S20x64_S256x64_S20x256_1_1_0_0_n_n = DotDims.transposedRhs 20 64 256 := rfl
theorem dot_plain_20_20_256 : dot_S20x20_S20x256_S20x256_1_0_0_1_n_n = DotDims.plain 20 20 256 := rfl
theorem dot_transposedRhs_20_256_128 : dot_S20x256_S128x256_S20x128_1_1_0_0_n_n = DotDims.transposedRhs 20 256 128 := rfl
theorem dot_plain_20_20_128 : dot_S20x20_S20x128_S20x128_1_0_0_1_n_n = DotDims.plain 20 20 128 := rfl
theorem dot_plain_1_20_128 : dot_S1x20_S20x128_S1x128_1_0_0_1_n_n = DotDims.plain 1 20 128 := rfl
theorem dot_plain_1_128_128 : dot_S1x128_S128x128_S1x128_1_0_0_1_n_n = DotDims.plain 1 128 128 := rfl
theorem dot_transposedRhs_1_256_128 : dot_S1x256_S128x256_S1x128_1_1_0_0_n_n = DotDims.transposedRhs 1 256 128 := rfl

/-- A store over the whole of a block followed by one over its first row: row 0 holds the later store, the other rows the
    earlier one. -/
theorem write_top {sp : Space} {M N : ℕ} {e : EltTy} (v : View sig .tc sp ⟨2, ![M, N]⟩ e) (f : v.ty.Contents (Elt Ideal))
    {off size off' size' : Fin 2 → ℕ} (ho : off = ![0, 0]) (hs : size = ![1, N]) (ho' : off' = ![0, 0]) (hs' : size' = ![M, N])
    (inb : ∀ k, off k + size k ≤ (⟨2, ![M, N]⟩ : Shape).size k) (inb' : ∀ k, off' k + size' k ≤ (⟨2, ![M, N]⟩ : Shape).size k)
    (a : (Rect.unit (s := ⟨2, ![M, N]⟩) off size inb).shape.Idx → Elt Ideal e)
    (b : (Rect.unit (s := ⟨2, ![M, N]⟩) off' size' inb').shape.Idx → Elt Ideal e) (A : Vec Ideal ⟨2, ![1, N]⟩ e) (B : Vec Ideal ⟨2, ![M, N]⟩ e)
    (hA : HEq a A) (hB : HEq b B) (r : Fin M) (o : Fin N) :
    v.read (Elt Ideal) (v.writes (Elt Ideal) f [⟨Rect.unit (s := ⟨2, ![M, N]⟩) off size inb, a⟩,
      ⟨Rect.unit (s := ⟨2, ![M, N]⟩) off' size' inb', b⟩]) (ix2 r o) = if r.val = 0 then A (ix2 0 o) else B (ix2 r o) := by
  subst ho hs ho' hs'
  cases hA; cases hB
  split
  · next h => exact View.read_writes_cons_rows_of_mem (o := 0) v f inb A _ (ix2 r o) (ix2 0 o) rfl (by simpa using h) rfl
  · next h =>
    rw [View.read_writes_cons_rows_of_not_mem (o := 0) (W := 1) v f inb A _ (ix2 r o) rfl rfl
      (Or.inr (by show 0 + 1 ≤ r.val; omega))]
    exact View.read_writes_cons_rows_of_mem (o := 0) v f inb' B _ (ix2 r o) (ix2 r o) rfl (Nat.zero_add _).symm rfl

variable (c : Dev nD) (i : grid0.Coords) (a1 : Memref sig .tc .vmem S2048x20 .f32) (h1 : a1.IsWhole) (a2 : Memref sig .tc .vmem S1x64 .f32) (h2 : a2.IsWhole) (a3 : Memref sig .tc .vmem S1x64 .f32) (h3 : a3.IsWhole) (a4 : Memref sig .tc .vmem S256x64 .f32) (h4 : a4.IsWhole) (a5 : Memref sig .tc .vmem S128x256 .f32) (h5 : a5.IsWhole) (a6 : Memref sig .tc .vmem S1x256 .f32) (h6 : a6.IsWhole) (a7 : Memref sig .tc .vmem S1x256 .f32) (h7 : a7.IsWhole) (a8 : Memref sig .tc .vmem S1x256 .f32) (h8 : a8.IsWhole) (a9 : Memref sig .tc .vmem S1x256 .f32) (h9 : a9.IsWhole) (a10 : Memref sig .tc .vmem S1x128 .f32) (h10 : a10.IsWhole) (a11 : Memref sig .tc .vmem S1x128 .f32) (h11 : a11.IsWhole) (a12 : Memref sig .tc .vmem S1x128 .f32) (h12 : a12.IsWhole) (a13 : Memref sig .tc .vmem S1x128 .f32) (h13 : a13.IsWhole) (a14 : Memref sig .tc .vmem S1x128 .f32) (h14 : a14.IsWhole) (a15 : Memref sig .tc .vmem S1x128 .f32) (h15 : a15.IsWhole) (a16 : Memref sig .tc .vmem S20x20 .f32) (h16 : a16.IsWhole) (a17 : Memref sig .tc .vmem S2048x128 .f32) (h17 : a17.IsWhole) (a18 : Memref sig .tc .vmem S128x256 .bf16) (h18 : a18.IsWhole) (a19 : Memref sig .tc .vmem S256x64 .bf16) (h19 : a19.IsWhole) (a20 : Memref sig .tc .vmem S1x128 .f32) (h20 : a20.IsWhole)
    (x0 : Vec Ideal S2048x20 .f32) (x1 : Vec Ideal S1x64 .f32) (x2 : Vec Ideal S1x64 .f32) (x3 : Vec Ideal S256x64 .f32) (x4 : Vec Ideal S128x256 .f32) (x5 : Vec Ideal S1x256 .f32) (x6 : Vec Ideal S1x256 .f32) (x7 : Vec Ideal S1x256 .f32) (x8 : Vec Ideal S1x256 .f32) (x9 : Vec Ideal S1x128 .f32) (x10 : Vec Ideal S1x128 .f32) (x11 : Vec Ideal S1x128 .f32) (x12 : Vec Ideal S1x128 .f32) (x13 : Vec Ideal S1x128 .f32) (x14 : Vec Ideal S1x128 .f32) (x15 : Vec Ideal S20x20 .f32) (xs0 : Vec Ideal S128x256 .bf16) (xs1 : Vec Ideal S256x64 .bf16) (xs2 : Vec Ideal S1x128 .f32)

/-- The later point's block: every sample treated without messages, from the carried weights. -/
theorem out_later (hc0 : ¬cond0_0 i) (hc1 : ¬cond0_1 i) :
    out0_B_16 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 x15 xs0 xs1 xs2
      = blockV 2048 inv x1 x2 xs1 xs0 xs2 (scaleV x9 x12) (shiftV x10 x11 (scaleV x9 x12)) x13 x14 x0 := by
  unfold out0_B_16 kernelRun0_B
  dsimp only
  sl_unfold_words
  unfold k0_pay1 k0_pay48 k0_pay45 k0_pay46 k0_pay47
  simp only [read_whole h1 x0 zeros, read_whole h2 x1 zeros, read_whole h3 x2 zeros, read_whole h4 x3 zeros, read_whole h5 x4 zeros, read_whole h6 x5 zeros, read_whole h7 x6 zeros, read_whole h8 x7 zeros, read_whole h9 x8 zeros, read_whole h10 x9 zeros, read_whole h11 x10 zeros, read_whole h12 x11 zeros, read_whole h13 x12 zeros, read_whole h14 x13 zeros, read_whole h15 x14 zeros, read_whole h16 x15 zeros, read_whole h18 xs0 zeros, read_whole h19 xs1 zeros, read_whole h20 xs2 zeros]
  refine (write_whole _ _ zeros _ _).trans ?_
  simp only [shapeCast_self, fold_rows, fold_elu, fold_hid, fold_first, fold_second, fold_node, fold_scale, fold_shift, fold_mean, fold_norm,
    dot_plain_2048_1_64, dot_transposedRhs_2048_64_256, dot_transposedRhs_2048_256_128, dot_plain_2048_128_128, Scalar.ofBits]
  simp only [blockV, accV]
  rfl

/-- The first point carries the second layer's weights with the first normalization's factor folded in. -/
theorem carried_weights (hc0 : cond0_0 i) (hc1 : cond0_1 i) :
    sout0_A_0 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 x15 = foldW x4 (scaleV x5 x8) := by
  unfold sout0_A_0 kernelRun0_A
  dsimp only
  sl_unfold_words
  simp only [read_whole h1 x0 zeros, read_whole h2 x1 zeros, read_whole h3 x2 zeros, read_whole h4 x3 zeros, read_whole h5 x4 zeros, read_whole h6 x5 zeros, read_whole h7 x6 zeros, read_whole h8 x7 zeros, read_whole h9 x8 zeros, read_whole h10 x9 zeros, read_whole h11 x10 zeros, read_whole h12 x11 zeros, read_whole h13 x12 zeros, read_whole h14 x13 zeros, read_whole h15 x14 zeros, read_whole h16 x15 zeros]
  refine (write_whole _ _ zeros _ _).trans ?_
  simp only [shapeCast_self]
  rfl

/-- The first point carries the first layer's weights. -/
theorem carried_first (hc0 : cond0_0 i) (hc1 : cond0_1 i) :
    sout0_A_1 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 x15 = lowV x3 := by
  unfold sout0_A_1 kernelRun0_A
  dsimp only
  sl_unfold_words
  simp only [read_whole h1 x0 zeros, read_whole h2 x1 zeros, read_whole h3 x2 zeros, read_whole h4 x3 zeros, read_whole h5 x4 zeros, read_whole h6 x5 zeros, read_whole h7 x6 zeros, read_whole h8 x7 zeros, read_whole h9 x8 zeros, read_whole h10 x9 zeros, read_whole h11 x10 zeros, read_whole h12 x11 zeros, read_whole h13 x12 zeros, read_whole h14 x13 zeros, read_whole h15 x14 zeros, read_whole h16 x15 zeros]
  refine (write_whole _ _ zeros _ _).trans ?_
  simp only [shapeCast_self]
  rfl

/-- The first point carries the first normalization's offset, taken through the second layer's weights. -/
theorem carried_offset (hc0 : cond0_0 i) (hc1 : cond0_1 i) :
    sout0_A_2 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 x15 = foldB x4 (shiftV x6 x7 (scaleV x5 x8)) := by
  unfold sout0_A_2 kernelRun0_A
  dsimp only
  sl_unfold_words
  simp only [read_whole h1 x0 zeros, read_whole h2 x1 zeros, read_whole h3 x2 zeros, read_whole h4 x3 zeros, read_whole h5 x4 zeros, read_whole h6 x5 zeros, read_whole h7 x6 zeros, read_whole h8 x7 zeros, read_whole h9 x8 zeros, read_whole h10 x9 zeros, read_whole h11 x10 zeros, read_whole h12 x11 zeros, read_whole h13 x12 zeros, read_whole h14 x13 zeros, read_whole h15 x14 zeros, read_whole h16 x15 zeros]
  refine (write_whole _ _ zeros _ _).trans ?_
  simp only [shapeCast_self]
  rfl

/-- The first point's block: row 0 is the first sample's result, every other row is treated without messages; the weights
    are those this point goes on to carry. -/
theorem out_first (hc0 : cond0_0 i) (hc1 : cond0_1 i) (r : Fin 2048) (o : Fin 128) :
    out0_A_16 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 x15 (ix2 r o)
      = if r.val = 0 then
          firstSampleV inv x1 x2 (lowV x3) (foldW x4 (scaleV x5 x8)) (foldB x4 (shiftV x6 x7 (scaleV x5 x8)))
            (scaleV x9 x12) (shiftV x10 x11 (scaleV x9 x12)) x13 x14 x15
            (pickV 2048 dot_S2048x20_S2048x1_S20x1_0_0_1_1_n_n iota_S2048x1_d0_w32 x0) (ix2 0 o)
        else
          blockV 2048 inv x1 x2 (lowV x3) (foldW x4 (scaleV x5 x8)) (foldB x4 (shiftV x6 x7 (scaleV x5 x8)))
            (scaleV x9 x12) (shiftV x10 x11 (scaleV x9 x12)) x13 x14 x0 (ix2 r o) := by
  unfold out0_A_16 kernelRun0_A
  dsimp only
  sl_unfold_words
  unfold k0_pay1 k0_pay48 k0_pay45 k0_pay46 k0_pay47 k0_pay5 k0_pay4 k0_pay3 k0_pay2
  simp only [read_whole h1 x0 zeros, read_whole h2 x1 zeros, read_whole h3 x2 zeros, read_whole h4 x3 zeros, read_whole h5 x4 zeros, read_whole h6 x5 zeros, read_whole h7 x6 zeros, read_whole h8 x7 zeros, read_whole h9 x8 zeros, read_whole h10 x9 zeros, read_whole h11 x10 zeros, read_whole h12 x11 zeros, read_whole h13 x12 zeros, read_whole h14 x13 zeros, read_whole h15 x14 zeros, read_whole h16 x15 zeros, View.readCov_unit_zero a18.view zeros, View.readCov_unit_zero a19.view zeros, View.readCov_unit_zero a20.view zeros]
  refine write_top _ _ rfl rfl rfl rfl _ _ _ _ _ _ (heq_of_eq ?_) (heq_of_eq ?_) r o
  · simp only [shapeCast_self, fold_rows, fold_elu, fold_hid, fold_first, fold_second, fold_node, fold_scale, fold_shift, fold_mean, fold_norm,
      dot_plain_20_1_64, dot_transposedRhs_20_64_256, dot_plain_20_20_256, dot_transposedRhs_20_256_128, dot_plain_20_20_128, dot_plain_1_20_128, dot_plain_1_128_128, Scalar.ofBits]
    rfl
  · simp only [shapeCast_self, fold_rows, fold_elu, fold_hid, fold_first, fold_second, fold_node, fold_scale, fold_shift, fold_mean, fold_norm,
      dot_plain_2048_1_64, dot_transposedRhs_2048_64_256, dot_transposedRhs_2048_256_128, dot_plain_2048_128_128, Scalar.ofBits]
    simp only [blockV, accV]
    rfl

end Cert.KernelIdeal.BlockValue
-- ==== Proof.KernelWindows.lean ====
/- What the kernel's input windows hold at each of its two points, in terms of the arguments: the block of samples, the
   learned numbers as rows, and the averaging matrix that the program makes from its two tables. -/
module

public import proofs.«01_k».proof.Proof.KernelBlock
public import proofs.«01_k».proof.Proof.Matrix
public import Idealize.ShloMosaic.Lib.Pipeline.ValueKit.Point

@[expose] public section

noncomputable section

namespace Cert.KernelIdeal.Windows

open Idealize.ShloMosaic hiding ix1 ix2
open Idealize.ShloMosaic.TcCoe Idealize.ShloMosaic.Tactic
open Idealize.ShloMosaic.ValueIdx
open Cert.KernelIdeal Cert.KernelIdeal.Gen

variable (m : (ℓ : Loc nD τ sig) → Buf (Elt Ideal) ℓ) (c : Dev nD) (t : Fin cfg0.N)

/-- The block of samples moves down with the point; every other window stays at its whole array. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![0, 0] :=
  (by decide +kernel : ∀ t : Fin grid0.N, _)

/-- The samples of point `t`. -/
theorem samples (r : Fin 2048) (n : Fin 20) (h : t.val * 2048 + r.val < 4096) :
    iblk m c 0 t (ix2 r n) = m ((c : Thread nD τ).loc main_arg0) (ix2 ⟨t.val * 2048 + r.val, h⟩ n) := by
  blk_ext! [iblk, V, idx t]

/-- The projection's weights and offsets as rows. -/
theorem projection (k : Fin 64) : iblk m c 1 t (ix2 0 k) = m ((c : Thread nD τ).loc main_arg1) (ix2 k 0)
    ∧ iblk m c 2 t (ix2 0 k) = m ((c : Thread nD τ).loc main_arg2) (ix1 k) := by
  refine ⟨?_, ?_⟩ <;> blk_ext! [iblk, V, idx t]

/-- The two layers' weights. -/
theorem weights : iblk m c 3 t = m ((c : Thread nD τ).loc main_arg3) ∧ iblk m c 4 t = m ((c : Thread nD τ).loc main_arg4) := by
  refine ⟨?_, ?_⟩ <;> blk_ext! [iblk, V, idx t]

set_option maxHeartbeats 1000000 in
/-- The first normalization's scale, offset, mean and variance as rows. -/
theorem first_norm (j : Fin 256) : iblk m c 5 t (ix2 0 j) = m ((c : Thread nD τ).loc main_arg5) (ix1 j)
    ∧ iblk m c 6 t (ix2 0 j) = m ((c : Thread nD τ).loc main_arg6) (ix1 j)
    ∧ iblk m c 7 t (ix2 0 j) = m ((c : Thread nD τ).loc main_arg7) (ix1 j)
    ∧ iblk m c 8 t (ix2 0 j) = m ((c : Thread nD τ).loc main_arg8) (ix1 j) := by
  refine ⟨?_, ?_, ?_, ?_⟩ <;> blk_ext! [iblk, V, idx t]

set_option maxHeartbeats 1000000 in
/-- The second normalization's scale, offset, mean and variance as rows. -/
theorem second_norm (o : Fin 128) : iblk m c 9 t (ix2 0 o) = m ((c : Thread nD τ).loc main_arg9) (ix1 o)
    ∧ iblk m c 10 t (ix2 0 o) = m ((c : Thread nD τ).loc main_arg10) (ix1 o)
    ∧ iblk m c 11 t (ix2 0 o) = m ((c : Thread nD τ).loc main_arg11) (ix1 o)
    ∧ iblk m c 12 t (ix2 0 o) = m ((c : Thread nD τ).loc main_arg12) (ix1 o) := by
  refine ⟨?_, ?_, ?_, ?_⟩ <;> blk_ext! [iblk, V, idx t]

/-- The layer normalization's scale and offset as rows. -/
theorem layer_norm (o : Fin 128) : iblk m c 13 t (ix2 0 o) = m ((c : Thread nD τ).loc main_arg13) (ix1 o)
    ∧ iblk m c 14 t (ix2 0 o) = m ((c : Thread nD τ).loc main_arg14) (ix1 o) := by
  refine ⟨?_, ?_⟩ <;> blk_ext! [iblk, V, idx t]

/-- The averaging matrix: the table of neighbours over the table of their numbers. -/
theorem averages (a b : Fin 20) : iblk m c 15 t (ix2 a b)
    = Ideal.div (FloatOps.ofBits (F := Ideal) .f32 (lit0 (S20x20.rowMajor (ix2 a b)))) (FloatOps.ofBits (F := Ideal) .f32 (lit1 (S20x1.rowMajor (ix2 a 0)))) := by
  blk_simp [iblk, V, idx t]
  entry_read
  have e : ((View.whole main_v13).slice (win0_15.rect t)).emb (ix2 a b) = ix2 a b := by blk_ext [idx t]
  refine (congrArg _ e).trans ?_
  refine congrArg (Ideal.div _) ?_
  refine broadcastInDim_apply _ _ _ _ (ix2 a 0) fun x => ?_
  match x with
  | ⟨0, _⟩ => rfl
  | ⟨1, _⟩ => rfl

end Cert.KernelIdeal.Windows
-- ==== Proof.Tables.lean ====
/- The kernel's two tables are the band graph of Model: entry by entry, and so the averaging matrix. -/
module

public import proofs.«01_k».proof.Proof.KernelReal
public import proofs.«01_k».proof.Proof.KernelWindows

@[expose] public section

noncomputable section

namespace Cert.Tables

open Idealize.ShloMosaic hiding ix1 ix2
open Idealize.ShloMosaic.TcCoe Idealize.ShloMosaic.ValueIdx
open Cert.Model Cert.Lift Cert.KernelReal
open Cert.KernelIdeal Cert.KernelIdeal.Gen

/-- The table of neighbours holds 1 at the neighbours and 0 elsewhere. -/
theorem neighbours : ∀ a b : Fin 20, KernelIdeal.lit0 (S20x20.rowMajor (ix2 a b)) = if b ∈ nb a then 0x3F800000#32 else 0x00000000#32 := by
  decide +kernel

/-- The table of degrees holds the number of neighbours. -/
theorem degrees : ∀ a : Fin 20, KernelIdeal.lit1 (S20x1.rowMajor (ix2 a 0)) = Consts.degreeBits (nb a).card := by
  decide +kernel

/-- Every node has four to eight neighbours. -/
theorem degree_range : ∀ a : Fin 20, 4 ≤ (nb a).card ∧ (nb a).card ≤ 8 := by
  decide +kernel

/-- The averaging matrix that the kernel's window holds. -/
theorem averages_value (m : (ℓ : Loc nD τ sig) → Buf (Elt Ideal) ℓ) (c : Dev nD) (t : Fin cfg0.N) : iblk m c 15 t = matUp avgMat := by
  refine matUp_ext _ _ fun a b => (Windows.averages m c t a b).trans ?_
  rw [neighbours, degrees, Consts.f32_degree _ (degree_range a).1 (degree_range a).2, Ideal.div_coe]
  · rw [show FloatOps.ofBits (F := Ideal) .f32 (if b ∈ nb a then 0x3F800000#32 else 0x00000000#32) = ((if b ∈ nb a then 1 else 0 : ℝ) : EReal) from by
      split
      · exact Consts.f32_one
      · exact Consts.f32_zero, ← EReal.coe_mul, mul_one_div]
    rfl
  · exact Nat.cast_ne_zero.2 (by have := (degree_range a).1; omega)

end Cert.Tables
-- ==== Proof.KernelValue.lean ====
/- What the kernel's result array holds, for arguments with finite values: the network's result at every sample. -/
module

public import proofs.«01_k».proof.Proof.Finite
public import proofs.«01_k».proof.Proof.Tables

@[expose] public section

noncomputable section

namespace Cert.KernelIdeal.Array

open Idealize.ShloMosaic hiding ix1 ix2
open Idealize.ShloMosaic.TcCoe Idealize.ShloMosaic.ValueIdx
open Cert.Model Cert.Lift Cert.KernelReal Cert.KernelOps Cert.Finite Cert.KernelIdeal.BlockValue
open Cert.KernelIdeal Cert.KernelIdeal.Gen Cert.KernelIdeal.Value
open scoped BigOperators

/-! ## The folded weights, of finite values -/

/-- A normalization's factor. -/
theorem scaleV_real {N : ℕ} (a r : Fin N → ℝ) (v : (⟨2, ![1, N]⟩ : Shape).Idx → EReal) (u : V1 N) (hu : ∀ j, v (ix2 0 j) = u (ix1 j))
    (h : InvStd u r) : scaleV (rowUp a) v = rowUp fun j => a j * r j := by
  refine matUp_ext _ _ fun z j => ?_
  obtain rfl : z = 0 := Subsingleton.elim _ _
  show ((a j : ℝ) : EReal) * Ideal.rsqrt (v (ix2 0 j) + FloatOps.ofBits (F := Ideal) .f32 0x3727C5AC#32) = _
  rw [Consts.f32_eps, hu, h.rsqrt, EReal.coe_mul]

/-- A normalization's offset. -/
theorem shiftV_real {N : ℕ} (b m s : Fin N → ℝ) : shiftV (rowUp b) (rowUp m) (rowUp s) = rowUp fun j => b j - m j * s j := by
  unfold shiftV
  rw [mulf_mat, subf_mat]

/-- The first normalization's factor folded into the second layer's weights. -/
theorem foldW_real (P : Net) : foldW (matUp P.g2) (rowUp fun j => P.a1 j * P.r1 j) = matUp (w2 P) := by
  unfold foldW
  rw [rows_mat, mulf_mat, truncf_mat]
  rfl

/-- The first normalization's offset carried through the second layer. -/
theorem foldB_real (P : Net) : foldB (matUp P.g2) (rowUp fun j => P.c1 j - P.m1 j * (P.a1 j * P.r1 j)) = rowUp (b2 P) := by
  unfold foldB
  rw [matmul_mat_tr]
  rfl

/-- The indicator of row 0, as a number. -/
theorem indicator (k : Fin 2048) : (sitofp .f32 (extui 32 (cmpi .eq (iota .tc S2048x1 32 [0] iota_S2048x1_d0_w32) (broadcast _ 0#32)) (by decide)) : FVec Ideal S2048x1 .f32) (ix2 k 0)
    = ((if k = 0 then 1 else 0 : ℝ) : EReal) := by
  have h : ∀ k : Fin 2048, ((extui 32 (cmpi .eq (iota .tc S2048x1 32 [0] iota_S2048x1_d0_w32) (broadcast _ 0#32)) (by decide) : IVec S2048x1 32) (ix2 k 0)).toInt
      = if k = 0 then 1 else 0 := by decide +kernel
  show ((((extui 32 (cmpi .eq (iota .tc S2048x1 32 [0] iota_S2048x1_d0_w32) (broadcast _ 0#32)) (by decide) : IVec S2048x1 32) (ix2 k 0)).toInt : ℝ) : EReal) = _
  rw [h k]
  split <;> simp

/-- The first row of a block, as a column. -/
theorem pickV_real (x : Fin 2048 → Fin 20 → ℝ) :
    pickV 2048 dot_S2048x20_S2048x1_S20x1_0_0_1_1_n_n iota_S2048x1_d0_w32 (matUp x) = colUp (x 0) := by
  refine matUp_ext _ _ fun n z => ?_
  obtain rfl : z = 0 := Subsingleton.elim _ _
  let e : dot_S2048x20_S2048x1_S20x1_0_0_1_1_n_n.contr.Idx ≃ Fin 2048 := contrEquiv1 _ 2048 rfl rfl
  show FloatOps.matmul dot_S2048x20_S2048x1_S20x1_0_0_1_1_n_n none _ _ _ (ix2 n 0) = _
  rw [Ideal.matmul_apply, ← Equiv.sum_comp e.symm]
  have hk : ∀ k : Fin 2048, matUp x (dot_S2048x20_S2048x1_S20x1_0_0_1_1_n_n.lhsIdx (ix2 n 0) (e.symm k))
      * (sitofp .f32 (extui 32 (cmpi .eq (iota .tc S2048x1 32 [0] iota_S2048x1_d0_w32) (broadcast _ 0#32)) (by decide)) : FVec Ideal S2048x1 .f32)
        (dot_S2048x20_S2048x1_S20x1_0_0_1_1_n_n.rhsIdx (ix2 n 0) (e.symm k)) = ((x k n * (if k = 0 then 1 else 0) : ℝ) : EReal) := by
    intro k
    have hv := contrEquiv1_symm_val dot_S2048x20_S2048x1_S20x1_0_0_1_1_n_n 2048 rfl rfl k
    have el : dot_S2048x20_S2048x1_S20x1_0_0_1_1_n_n.lhsIdx (ix2 n 0) (e.symm k) = ix2 k n := by
      funext a; apply Fin.ext
      match a with
      | ⟨0, _⟩ => exact hv
      | ⟨1, _⟩ => rfl
    have er : dot_S2048x20_S2048x1_S20x1_0_0_1_1_n_n.rhsIdx (ix2 n 0) (e.symm k) = ix2 k 0 := by
      funext a; apply Fin.ext
      match a with
      | ⟨0, _⟩ => exact hv
      | ⟨1, _⟩ => rfl
    rw [el, er, indicator, EReal.coe_mul]
    rfl
  refine (congrArg₂ (· + ·) Consts.f32_zero (Finset.sum_congr rfl fun k _ => hk k)).trans ?_
  rw [← coe_sum, ← EReal.coe_add]
  simp

/-! ## The windows, of finite values -/

section Windows

variable {m : (ℓ : Loc nD τ sig) → Buf (Elt Ideal) ℓ} {c : Dev nD} {P : Net} {X : Fin 4096 → Fin 20 → ℝ}

/-- The kernel's arguments hold the numbers of `P` and `X`. -/
abbrev Args (m : (ℓ : Loc nD τ sig) → Buf (Elt Ideal) ℓ) (c : Dev nD) (P : Net) (X : Fin 4096 → Fin 20 → ℝ) : Prop :=
  Holds P X (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- A row whose entries are those of a vector of finite values. -/
theorem row_of_vec {N : ℕ} (w : (⟨2, ![1, N]⟩ : Shape).Idx → EReal) (u : V1 N) (f : Fin N → ℝ) (hu : u = vecUp f)
    (h : ∀ j, w (ix2 0 j) = u (ix1 j)) : w = rowUp f := by
  refine matUp_ext _ _ fun z j => ?_
  obtain rfl : z = 0 := Subsingleton.elim _ _
  rw [h j, hu]
  rfl

variable (h : Args m c P X) (t : Fin cfg0.N)
include h

theorem win0 : iblk m c 0 t = matUp fun r : Fin 2048 => X ⟨t.val * 2048 + r.val, by have ht := t.isLt; have hN : cfg0.N = 2 := N_0; have hr := r.isLt; omega⟩ := by
  refine matUp_ext _ _ fun r n => ?_
  rw [Windows.samples m c t r n, h.x]
  rfl

theorem win1 : iblk m c 1 t = rowUp P.pw := by
  refine matUp_ext _ _ fun z k => ?_
  obtain rfl : z = 0 := Subsingleton.elim _ _
  rw [(Windows.projection m c t k).1, h.pw]
  rfl

theorem win2 : iblk m c 2 t = rowUp P.pb := row_of_vec _ _ _ h.pb fun k => (Windows.projection m c t k).2
theorem win3 : iblk m c 3 t = matUp P.g1 := (Windows.weights m c t).1.trans h.g1
theorem win4 : iblk m c 4 t = matUp P.g2 := (Windows.weights m c t).2.trans h.g2
theorem win5 : iblk m c 5 t = rowUp P.a1 := row_of_vec _ _ _ h.a1 fun j => (Windows.first_norm m c t j).1
theorem win6 : iblk m c 6 t = rowUp P.c1 := row_of_vec _ _ _ h.c1 fun j => (Windows.first_norm m c t j).2.1
theorem win7 : iblk m c 7 t = rowUp P.m1 := row_of_vec _ _ _ h.m1 fun j => (Windows.first_norm m c t j).2.2.1
theorem win9 : iblk m c 9 t = rowUp P.a2 := row_of_vec _ _ _ h.a2 fun j => (Windows.second_norm m c t j).1
theorem win10 : iblk m c 10 t = rowUp P.c2 := row_of_vec _ _ _ h.c2 fun j => (Windows.second_norm m c t j).2.1
theorem win11 : iblk m c 11 t = rowUp P.m2 := row_of_vec _ _ _ h.m2 fun j => (Windows.second_norm m c t j).2.2.1

/-- The two normalizations' factors. -/
theorem scale1 : scaleV (iblk m c 5 t) (iblk m c 8 t) = rowUp fun j => P.a1 j * P.r1 j := by
  rw [win5 h t]
  exact scaleV_real _ _ _ _ (fun j => (Windows.first_norm m c t j).2.2.2) h.v1
theorem scale2 : scaleV (iblk m c 9 t) (iblk m c 12 t) = rowUp fun j => P.a2 j * P.r2 j := by
  rw [win9 h t]
  exact scaleV_real _ _ _ _ (fun j => (Windows.second_norm m c t j).2.2.2) h.v2

/-- The second normalization's offset. -/
theorem shift2 : shiftV (iblk m c 10 t) (iblk m c 11 t) (scaleV (iblk m c 9 t) (iblk m c 12 t)) = rowUp fun o => P.c2 o - P.m2 o * (P.a2 o * P.r2 o) := by
  rw [scale2 h t, win10 h t, win11 h t]
  exact shiftV_real _ _ _

/-- The carried weights and offset of the second layer, and the carried weights of the first. -/
theorem carriedW : foldW (iblk m c 4 t) (scaleV (iblk m c 5 t) (iblk m c 8 t)) = matUp (w2 P) := by
  rw [scale1 h t, win4 h t]
  exact foldW_real P
theorem carriedB : foldB (iblk m c 4 t) (shiftV (iblk m c 6 t) (iblk m c 7 t) (scaleV (iblk m c 5 t) (iblk m c 8 t))) = rowUp (b2 P) := by
  rw [scale1 h t, win4 h t, win6 h t, win7 h t, shiftV_real]
  exact foldB_real P
theorem carriedFirst : lowV (iblk m c 3 t) = matUp P.g1 := by
  rw [win3 h t]
  rfl

/-- The last normalization's scale and offset, repeated over the block's rows. -/
theorem scale_rows (r : Fin 2048) (o : Fin 128) : rows (φ := .f32) 2048 (iblk m c 13 t) (ix2 r o) = m ((c : Thread nD τ).loc main_arg13) (ix1 o)
    ∧ rows (φ := .f32) 2048 (iblk m c 14 t) (ix2 r o) = m ((c : Thread nD τ).loc main_arg14) (ix1 o) := by
  have e : ∀ v : Mat 1 128 .f32, rows (φ := .f32) 2048 v (ix2 r o) = v (ix2 0 o) := fun v =>
    broadcastTo_apply _ _ _ (ix2 0 o) fun a => match a with
      | ⟨0, _⟩ => rfl
      | ⟨1, _⟩ => rfl
  exact ⟨(e _).trans (Windows.layer_norm m c t o).1, (e _).trans (Windows.layer_norm m c t o).2⟩

end Windows

/-! ## The result array -/

variable (m : (ℓ : Loc nD τ sig) → Buf (Elt Ideal) ℓ) (c : Dev nD) {P : Net} {X : Fin 4096 → Fin 20 → ℝ} (h : Args m c P X)

/-- The network's result at sample `b`, scaled and offset. -/
abbrev value (P : Net) (X : Fin 4096 → Fin 20 → ℝ) (lg lb : V1 128) (b : Fin 4096) (o : Fin 128) : EReal :=
  ((result P Consts.eps b.val (X b) o : ℝ) : EReal) * lg (ix1 o) + lb (ix1 o)

include h

/-- What the first point writes: samples 0 to 2047. -/
theorem first_point (h0 : 0 < cfg0.N) (r : Fin 2048) (o : Fin 128) :
    (outsAt0 m c 0 h0).1 (ix2 r o)
      = value P X (m ((c : Thread nD τ).loc main_arg13)) (m ((c : Thread nD τ).loc main_arg14)) ⟨r.val, by omega⟩ o := by
  rw [outsAt0_A m c ⟨0, h0⟩ rfl rfl]
  dsimp only
  rw [out_first]
  rw [carriedW h, carriedB h, carriedFirst h, shift2 h, scale2 h, win0 h, win1 h, win2 h, Tables.averages_value, pickV_real,
    show inv = _ from Consts.inv_nodes]
  split
  · next hr =>
    rw [firstSampleV_real, (Windows.layer_norm m c _ o).1, (Windows.layer_norm m c _ o).2]
    obtain rfl : r = 0 := Fin.ext hr
    rfl
  · next hr =>
    rw [blockV_real P _ _ _ r.val hr, (scale_rows h _ r o).1, (scale_rows h _ r o).2]
    simp only [Nat.zero_mul, Nat.zero_add]

/-- What the first point leaves for the second: the folded weights and offset. -/
theorem carried (h0 : 0 < cfg0.N) : (outsAt0 m c 0 h0).2.1 = matUp (w2 P) ∧ (outsAt0 m c 0 h0).2.2.1 = matUp P.g1
    ∧ (outsAt0 m c 0 h0).2.2.2 = rowUp (b2 P) := by
  rw [outsAt0_A m c ⟨0, h0⟩ rfl rfl]
  dsimp only
  rw [carried_weights, carried_first, carried_offset, carriedW h, carriedB h, carriedFirst h]
  exact ⟨rfl, rfl, rfl⟩

/-- What the second point writes: samples 2048 to 4095. -/
theorem second_point (h1 : 1 < cfg0.N) (r : Fin 2048) (o : Fin 128) :
    (outsAt0 m c 1 h1).1 (ix2 r o)
      = value P X (m ((c : Thread nD τ).loc main_arg13)) (m ((c : Thread nD τ).loc main_arg14)) ⟨2048 + r.val, by omega⟩ o := by
  rw [outsAt0_B m c ⟨1, h1⟩ (by show ¬1 % 2 = 0; decide) (by show ¬1 % 2 = 0; decide)]
  dsimp only
  rw [out_later]
  obtain ⟨e0, e1, e2⟩ := carried m c h (Nat.lt_of_succ_lt h1)
  rw [show (outsAt0 m c (1 - 1) _).2.1 = _ from e0, show (outsAt0 m c (1 - 1) _).2.2.1 = _ from e1, show (outsAt0 m c (1 - 1) _).2.2.2 = _ from e2,
    shift2 h, scale2 h, win0 h, win1 h, win2 h, show inv = _ from Consts.inv_nodes,
    blockV_real P _ _ _ (2048 + r.val) (by omega), (scale_rows h _ r o).1, (scale_rows h _ r o).2]
  simp only [Nat.one_mul]

/-- The kernel's result array at sample `b` and feature `o`. -/
theorem G16_apply (b : Fin 4096) (o : Fin 128) :
    G16 m c (ix2 b o) = value P X (m ((c : Thread nD τ).loc main_arg13)) (m ((c : Thread nD τ).loc main_arg14)) b o := by
  have hN : cfg0.N = 2 := N_0
  have hp : pt16Of (ix2 b o) = b.val / 2048 := by
    show 1 * (b.val / 2048 - 0) + 1 * (o.val / 128 - 0) = _
    omega
  have hb : b.val / 2048 < cfg0.N := by omega
  have hl : loc16Of (ix2 b o) = ix2 ⟨b.val % 2048, by omega⟩ o := by
    funext a
    match a with
    | ⟨0, _⟩ => rfl
    | ⟨1, _⟩ => exact Fin.ext (Nat.mod_eq_of_lt o.isLt)
  have hG : G16 m c (ix2 b o) = (outsAt0 m c (b.val / 2048) hb).1 (ix2 ⟨b.val % 2048, by omega⟩ o) := by
    unfold G16
    rw [dif_pos (hp ▸ hb), hl, outsAt0_sweep]
    rw [fold0_congr m c _ _ (b.val / 2048) _ hp]
  rw [hG]
  rcases (by omega : b.val / 2048 = 0 ∨ b.val / 2048 = 1) with e | e
  · have : ∀ n (hn : n < cfg0.N), n = 0 → outsAt0 m c n hn = outsAt0 m c 0 (by omega) := by rintro _ _ rfl; rfl
    rw [this _ _ e, first_point m c h]
    exact congrArg (fun b' => value P X _ _ b' o) (Fin.ext (by show b.val % 2048 = b.val; omega))
  · have : ∀ n (hn : n < cfg0.N), n = 1 → outsAt0 m c n hn = outsAt0 m c 1 (by omega) := by rintro _ _ rfl; rfl
    rw [this _ _ e, second_point m c h]
    exact congrArg (fun b' => value P X _ _ b' o) (Fin.ext (by show 2048 + b.val % 2048 = b.val; omega))

end Cert.KernelIdeal.Array
-- ==== Proof.Edges.lean ====
/- The reference's edge list: 140 edges among the nodes 0, …, 19, those of the band graph. Summing over the edges that
   end at a node is summing over its neighbours. -/
module

public import proofs.«01_k».proof.Proof.Gen.ReferenceIdeal.Run
public import proofs.«01_k».proof.Proof.Model
public import Idealize.ShloMosaic.Lib.ValueIdxCore
public import Idealize.ShloMosaic.Lib.ReduceAll

@[expose] public section

noncomputable section

namespace Cert.Edges

open Idealize.ShloMosaic
open Idealize.ShloMosaic.ValueIdx
open Cert.Model
open Cert.ReferenceIdeal
open scoped BigOperators

/-- Where an edge starts. -/
def src (e : Fin 140) : Fin 20 := ⟨(ReferenceIdeal.lit0 e).toNat % 20, Nat.mod_lt _ (by decide)⟩
/-- Where an edge ends. -/
def dst (e : Fin 140) : Fin 20 := ⟨(ReferenceIdeal.lit1 e).toNat % 20, Nat.mod_lt _ (by decide)⟩

/-- A row number counted from the end where it is negative, as an indexed operation reads it. -/
def norm (b : BitVec 32) : BitVec 32 := Scalar.select (IntOp.cmpi .slt b 0#32) (IntOp.addi b 81920#32) b

/-- The numbers of the rows taken, and of the rows added into. -/
theorem src_row : ∀ e : Fin 140, (norm (ReferenceIdeal.lit0 (S140.rowMajor (ix1 e)))).toInt = ((src e).val : ℤ) := by decide +kernel
theorem dst_row : ∀ e : Fin 140, (norm (ReferenceIdeal.lit1 (S140.rowMajor (ix1 e)))).toInt = ((dst e).val : ℤ) := by decide +kernel

/-- Every row taken exists. -/
theorem src_ok : ∀ e : Fin 140, IntOp.andi (IntOp.cmpi .sge (norm (ReferenceIdeal.lit0 (S140.rowMajor (ix1 e)))) 0#32)
    (IntOp.cmpi .sle (norm (ReferenceIdeal.lit0 (S140.rowMajor (ix1 e)))) 81919#32) = 1#1 := by decide +kernel

/-- The edges that end at a node. -/
def into (n : Fin 20) : Finset (Fin 140) := Finset.univ.filter fun e => dst e = n

/-- They start at its neighbours, -/
theorem image_into : ∀ n, (into n).image src = nb n := by decide +kernel
/-- each at another. -/
theorem card_into : ∀ n, ((into n).image src).card = (into n).card := by decide +kernel

/-- Summing over the edges that end at a node is summing over its neighbours. -/
theorem sum_into (f : Fin 20 → ℝ) (n : Fin 20) : ∑ e ∈ into n, f (src e) = ∑ m ∈ nb n, f m := by
  rw [← image_into n, Finset.sum_image (Finset.card_image_iff.1 (card_into n))]

/-- Summing over the edges that end at row `r` of the flat array of nodes: only the first twenty rows have any. -/
theorem sum_row (f : Fin 20 → ℝ) (r : ℕ) :
    ∑ e ∈ Finset.univ.filter (fun e => ((dst e).val : ℤ) = (r : ℤ)), f (src e) = if h : r < 20 then ∑ m ∈ nb ⟨r, h⟩, f m else 0 := by
  by_cases h : r < 20
  · rw [dif_pos h, ← sum_into]
    refine Finset.sum_congr (Finset.filter_congr fun e _ => ?_) fun _ _ => rfl
    rw [Fin.ext_iff, Nat.cast_inj]
  · rw [dif_neg h]
    refine Finset.sum_eq_zero fun e he => absurd (Nat.cast_inj.1 (Finset.mem_filter.1 he).2) ?_
    have := (dst e).isLt
    omega

end Cert.Edges
-- ==== Proof.Messages.lean ====
/- The two indexed operations the reference passes messages with, read at an index: taking rows of an array of `N`
   rows by `E` row numbers, and adding `E` rows into an array of `N` rows at `E` row numbers. -/
module

public import Idealize.ShloMosaic.PureOps
public import Idealize.ShloMosaic.Lib.ValueIdxCore
public import Idealize.ShloMosaic.Lib.IdealHost

@[expose] public section

noncomputable section

namespace Cert.Messages

open Idealize.ShloMosaic Idealize.ShloMosaic.ValueIdx
open scoped BigOperators

variable {N E H W : ℕ}

/-- The dimension numbers of taking whole rows of an array `[N, H, W]`. -/
abbrev takeRows (N E H W : ℕ)
    (wf : GatherDims.WF ⟨3, ![N, H, W]⟩ ⟨2, ![E, 1]⟩ ⟨3, ![E, H, W]⟩ [1, 2] [0] [] [0] [] 1 ![1, H, W]) :
    GatherDims ⟨3, ![N, H, W]⟩ ⟨2, ![E, 1]⟩ ⟨3, ![E, H, W]⟩ :=
  ⟨[1, 2], [0], [], [], [0], 1, ![1, H, W], wf⟩

/-- The dimension numbers of adding whole rows into an array `[N, H, W]`. -/
abbrev addRows (N E H W : ℕ)
    (wf : ScatterDims.WF ⟨3, ![N, H, W]⟩ ⟨2, ![E, 1]⟩ ⟨3, ![E, H, W]⟩ [1, 2] [0] [0] 1) :
    ScatterDims ⟨3, ![N, H, W]⟩ ⟨2, ![E, 1]⟩ ⟨3, ![E, H, W]⟩ :=
  ⟨[1, 2], [0], [0], 1, wf⟩

/-- The dimension numbers of adding numbers into an array `[N]`. -/
abbrev addNums (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  ⟨[], [0], [0], 1, wf⟩

/-- Row `e` of the rows taken is the row of the array whose number is `idx[e]`, where that is a row number. -/
theorem take_rows_apply {α : Type} {w : ℕ}
    (wf : GatherDims.WF ⟨3, ![N, H, W]⟩ ⟨2, ![E, 1]⟩ ⟨3, ![E, H, W]⟩ [1, 2] [0] [] [0] [] 1 ![1, H, W])
    (x : (⟨3, ![N, H, W]⟩ : Shape).Idx → α) (idx : IVec ⟨2, ![E, 1]⟩ w) (e : Fin E) (h : Fin H) (f : Fin W) (r : Fin N)
    (hr : (idx (ix2 e 0)).toInt = r.val) :
    Host.gather (takeRows N E H W wf) x idx (ix3 e h f) = x (ix3 r h f) := by
  unfold Host.gather
  refine congrArg x (funext fun a => Fin.ext ?_)
  show (takeRows N E H W wf).start (ix3 e h f) idx a + (takeRows N E H W wf).batchCoord (ix3 e h f) a
      + (takeRows N E H W wf).offCoord (ix3 e h f) a = _
  rw [GatherDims.batchCoord_eq_zero _ _ _ (fun h => by simp at h), Nat.add_zero]
  match a with
  | ⟨0, _⟩ =>
    rw [GatherDims.offCoord_eq_zero _ _ _ (fun h => ((GatherDims.mem_sKept _ _).mp h).1 (List.mem_singleton.mpr rfl)), Nat.add_zero]
    have hsi : (takeRows N E H W wf).siIdx (ix3 e h f) ⟨List.idxOf (0 : Fin 3) (takeRows N E H W wf).startIndexMap,
        List.idxOf_lt_length_iff.2 (List.mem_singleton.mpr rfl)⟩ = ix2 e 0 := by
      funext b
      match b with
      | ⟨0, _⟩ => rfl
      | ⟨1, _⟩ => rfl
    show (takeRows N E H W wf).start (ix3 e h f) idx (0 : Fin 3) = r.val
    unfold GatherDims.start
    rw [dif_pos (show (0 : Fin 3) ∈ (takeRows N E H W wf).startIndexMap from List.mem_singleton.mpr rfl)]
    show min (idx ((takeRows N E H W wf).siIdx (ix3 e h f) _)).toInt.toNat (N - 1) = r.val
    rw [hsi, hr]
    have := r.isLt
    simp only [Int.toNat_natCast]
    omega
  | ⟨1, _⟩ => exact Nat.zero_add _
  | ⟨2, _⟩ => exact Nat.zero_add _

/-- The update row `e` lands on row `r` exactly if `idx[e]` is `r`, keeping its place within the row. -/
theorem addRows_lands {w : ℕ} (wf : ScatterDims.WF ⟨3, ![N, H, W]⟩ ⟨2, ![E, 1]⟩ ⟨3, ![E, H, W]⟩ [1, 2] [0] [0] 1)
    (idx : IVec ⟨2, ![E, 1]⟩ w) (e : Fin E) (h h' : Fin H) (f f' : Fin W) (r : Fin N) :
    (addRows N E H W wf).resultIdx? (ix3 e h f) idx = some (ix3 r h' f')
      ↔ (idx (ix2 e 0)).toInt = r.val ∧ h = h' ∧ f = f' := by
  have hsi : ∀ k, (addRows N E H W wf).siIdx (ix3 e h f) k = ix2 e 0 := by
    intro k
    funext b
    match b with
    | ⟨0, _⟩ => rfl
    | ⟨1, _⟩ => exact Fin.ext (by have := k.isLt; simp at this; simpa [ScatterDims.siIdx] using this)
  have s0 : (addRows N E H W wf).start (ix3 e h f) idx 0 = (idx (ix2 e 0)).toInt := by
    unfold ScatterDims.start
    rw [dif_pos (show (0 : Fin 3) ∈ (addRows N E H W wf).scatterDimsToOperandDims from List.mem_singleton.mpr rfl), hsi]
  have s1 : (addRows N E H W wf).start (ix3 e h f) idx 1 = 0 := rfl
  have s2 : (addRows N E H W wf).start (ix3 e h f) idx 2 = 0 := rfl
  have w0 : (addRows N E H W wf).window (ix3 e h f) 0 = 0 := rfl
  have w1 : (addRows N E H W wf).window (ix3 e h f) 1 = h.val := rfl
  have w2 : (addRows N E H W wf).window (ix3 e h f) 2 = f.val := rfl
  unfold ScatterDims.resultIdx?
  constructor
  · intro hh
    split at hh
    · next hb =>
      have := Option.some.inj hh
      have e0 := congrArg Fin.val (congrFun this 0)
      have e1 := congrArg Fin.val (congrFun this 1)
      have e2 := congrArg Fin.val (congrFun this 2)
      have b0 := hb 0
      simp only [s0, s1, s2, w0, w1, w2] at e0 e1 e2 b0
      refine ⟨?_, Fin.ext ?_, Fin.ext ?_⟩
      · have e0' : ((idx (ix2 e 0)).toInt + ((0 : ℕ) : ℤ)).toNat = r.val := e0
        omega
      · have e1' : ((0 : ℤ) + (h.val : ℤ)).toNat = h'.val := e1
        omega
      · have e2' : ((0 : ℤ) + (f.val : ℤ)).toNat = f'.val := e2
        omega
    · exact absurd hh (by simp)
  · rintro ⟨h0, rfl, rfl⟩
    have hr := r.isLt; have hh := h.isLt; have hf := f.isLt
    rw [dif_pos]
    · refine congrArg some (funext fun a => Fin.ext ?_)
      match a with
      | ⟨0, _⟩ =>
        show ((addRows N E H W wf).start (ix3 e h f) idx 0 + ((addRows N E H W wf).window (ix3 e h f) 0 : ℕ)).toNat = r.val
        rw [s0, w0, h0]; omega
      | ⟨1, _⟩ =>
        show ((addRows N E H W wf).start (ix3 e h f) idx 1 + ((addRows N E H W wf).window (ix3 e h f) 1 : ℕ)).toNat = h.val
        rw [s1, w1]; omega
      | ⟨2, _⟩ =>
        show ((addRows N E H W wf).start (ix3 e h f) idx 2 + ((addRows N E H W wf).window (ix3 e h f) 2 : ℕ)).toNat = f.val
        rw [s2, w2]; omega
    · intro a
      match a with
      | ⟨0, _⟩ =>
        show 0 ≤ (addRows N E H W wf).start (ix3 e h f) idx 0 + ((addRows N E H W wf).window (ix3 e h f) 0 : ℕ)
          ∧ (addRows N E H W wf).start (ix3 e h f) idx 0 + ((addRows N E H W wf).window (ix3 e h f) 0 : ℕ) < (N : ℤ)
        rw [s0, w0, h0]; omega
      | ⟨1, _⟩ =>
        show 0 ≤ (addRows N E H W wf).start (ix3 e h f) idx 1 + ((addRows N E H W wf).window (ix3 e h f) 1 : ℕ)
          ∧ (addRows N E H W wf).start (ix3 e h f) idx 1 + ((addRows N E H W wf).window (ix3 e h f) 1 : ℕ) < (H : ℤ)
        rw [s1, w1]; omega
      | ⟨2, _⟩ =>
        show 0 ≤ (addRows N E H W wf).start (ix3 e h f) idx 2 + ((addRows N E H W wf).window (ix3 e h f) 2 : ℕ)
          ∧ (addRows N E H W wf).start (ix3 e h f) idx 2 + ((addRows N E H W wf).window (ix3 e h f) 2 : ℕ) < (W : ℤ)
        rw [s2, w2]; omega

/-- The number `e` lands on entry `r` exactly if `idx[e]` is `r`. -/
theorem addNums_lands {w : ℕ} (wf : ScatterDims.WF ⟨1, ![N]⟩ ⟨2, ![E, 1]⟩ ⟨1, ![E]⟩ [] [0] [0] 1)
    (idx : IVec ⟨2, ![E, 1]⟩ w) (e : Fin E) (r : Fin N) :
    (addNums N E wf).resultIdx? (ix1 e) idx = some (ix1 r) ↔ (idx (ix2 e 0)).toInt = r.val := by
  have hsi : ∀ k, (addNums N E wf).siIdx (ix1 e) k = ix2 e 0 := by
    intro k
    funext b
    match b with
    | ⟨0, _⟩ => rfl
    | ⟨1, _⟩ => exact Fin.ext (by have := k.isLt; simp at this; simpa [ScatterDims.siIdx] using this)
  have s0 : (addNums N E wf).start (ix1 e) idx 0 = (idx (ix2 e 0)).toInt := by
    unfold ScatterDims.start
    rw [dif_pos (show (0 : Fin 1) ∈ (addNums N E wf).scatterDimsToOperandDims from List.mem_singleton.mpr rfl), hsi]
  have w0 : (addNums N E wf).window (ix1 e) 0 = 0 := rfl
  unfold ScatterDims.resultIdx?
  constructor
  · intro hh
    split at hh
    · next hb =>
      have e0 := congrArg Fin.val (congrFun (Option.some.inj hh) 0)
      have b0 := hb 0
      simp only [s0, w0] at e0 b0
      have e0' : ((idx (ix2 e 0)).toInt + ((0 : ℕ) : ℤ)).toNat = r.val := e0
      omega
    · exact absurd hh (by simp)
  · intro h0
    have hr := r.isLt
    rw [dif_pos]
    · refine congrArg some (funext fun a => Fin.ext ?_)
      match a with
      | ⟨0, _⟩ =>
        show ((addNums N E wf).start (ix1 e) idx 0 + ((addNums N E wf).window (ix1 e) 0 : ℕ)).toNat = r.val
        rw [s0, w0, h0]; omega
    · intro a
      match a with
      | ⟨0, _⟩ =>
        show 0 ≤ (addNums N E wf).start (ix1 e) idx 0 + ((addNums N E wf).window (ix1 e) 0 : ℕ)
          ∧ (addNums N E wf).start (ix1 e) idx 0 + ((addNums N E wf).window (ix1 e) 0 : ℕ) < (N : ℤ)
        rw [s0, w0, h0]; omega

/-- Adding rows into an array: row `r` gains the update rows whose row number is `r`. -/
theorem add_rows_apply {w : ℕ} (wf : ScatterDims.WF ⟨3, ![N, H, W]⟩ ⟨2, ![E, 1]⟩ ⟨3, ![E, H, W]⟩ [1, 2] [0] [0] 1)
    (x : FVec Ideal ⟨3, ![N, H, W]⟩ .f32) (idx : IVec ⟨2, ![E, 1]⟩ w) (u : FVec Ideal ⟨3, ![E, H, W]⟩ .f32)
    (r : Fin N) (h : Fin H) (f : Fin W) :
    Host.scatterAdd (addRows N E H W wf) x idx u (ix3 r h f)
      = x (ix3 r h f) + ∑ e ∈ Finset.univ.filter (fun e : Fin E => (idx (ix2 e 0)).toInt = r.val), u (ix3 e h f) := by
  show x (ix3 r h f) + ∑ j ∈ Finset.univ.filter (fun j => (addRows N E H W wf).resultIdx? j idx = some (ix3 r h f)), u j = _
  refine congrArg (x (ix3 r h f) + ·) ?_
  symm
  refine Finset.sum_bij (fun e _ => ix3 e h f) (fun e he => ?_) (fun a _ b _ hab => ?_) (fun j hj => ?_) (fun e _ => rfl)
  · exact Finset.mem_filter.2 ⟨Finset.mem_univ _, (addRows_lands wf idx e h h f f r).2 ⟨(Finset.mem_filter.1 he).2, rfl, rfl⟩⟩
  · exact congrFun hab 0
  · rw [eq_ix3 j] at hj
    obtain ⟨h0, h1, h2⟩ := (addRows_lands wf idx (j 0) (j 1) h (j 2) f r).1 (Finset.mem_filter.1 hj).2
    exact ⟨j 0, Finset.mem_filter.2 ⟨Finset.mem_univ _, h0⟩, by rw [← h1, ← h2]; exact (eq_ix3 j).symm⟩

/-- Adding numbers into an array: entry `r` gains the numbers whose row number is `r`. -/
theorem add_nums_apply {w : ℕ} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (u : FVec Ideal ⟨1, ![E]⟩ .f32) (r : Fin N) :
    Host.scatterAdd (addNums N E wf) x idx u (ix1 r)
      = x (ix1 r) + ∑ e ∈ Finset.univ.filter (fun e : Fin E => (idx (ix2 e 0)).toInt = r.val), u (ix1 e) := by
  show x (ix1 r) + ∑ j ∈ Finset.univ.filter (fun j => (addNums N E wf).resultIdx? j idx = some (ix1 r)), u j = _
  refine congrArg (x (ix1 r) + ·) ?_
  symm
  refine Finset.sum_bij (fun e _ => ix1 e) (fun e he => ?_) (fun a _ b _ hab => ?_) (fun j hj => ?_) (fun e _ => rfl)
  · exact Finset.mem_filter.2 ⟨Finset.mem_univ _, (addNums_lands wf idx e r).2 (Finset.mem_filter.1 he).2⟩
  · exact congrFun hab 0
  · rw [eq_ix1 j] at hj
    exact ⟨j 0, Finset.mem_filter.2 ⟨Finset.mem_univ _, (addNums_lands wf idx (j 0) r).1 (Finset.mem_filter.1 hj).2⟩, (eq_ix1 j).symm⟩

end Cert.Messages
-- ==== Proof.RefMean.lean ====
/- One round of messages in the reference, read at an index: each row of the flat array of nodes becomes the mean of the
   rows that send to it, or stays where none does. The round is stated once, for any width of a row, and used in both
   layers. -/
module

public import proofs.«01_k».proof.Proof.Edges
public import proofs.«01_k».proof.Proof.Messages
public import proofs.«01_k».proof.Proof.Consts
public import Idealize.ShloMosaic.Lib.Pipeline.Value

@[expose] public section

noncomputable section

namespace Cert.RefMean

open Idealize.ShloMosaic Idealize.ShloMosaic.ValueIdx
open Cert.Model Cert.Lift Cert.Edges Cert.Messages
open Cert.ReferenceIdeal Cert.ReferenceIdeal.Gen Cert.ReferenceIdeal.Value
open scoped BigOperators

/-- The value of a row after a round: the mean over the neighbours in the first twenty rows, itself elsewhere. -/
def settle (f : ℕ → ℝ) (r : ℕ) : ℝ := if h : r < 20 then avg (fun m => f m.val) ⟨r, h⟩ else f r

/-- The number of messages a row receives. -/
def deg (r : ℕ) : ℝ := if h : r < 20 then ((nb ⟨r, h⟩).card : ℝ) else 0

theorem deg_pos_iff (r : ℕ) : 0 < deg r ↔ r < 20 := by
  unfold deg
  split
  · next h =>
    refine iff_of_true (Nat.cast_pos.2 ?_) h
    have : ∀ n : Fin 20, 0 < (nb n).card := by decide +kernel
    exact this _
  · next h => exact iff_of_false (lt_irrefl _) h

theorem max_deg (r : ℕ) (h : r < 20) : max (deg r) 1 = ((nb ⟨r, h⟩).card : ℝ) := by
  unfold deg
  rw [dif_pos h]
  refine max_eq_left (Nat.one_le_cast.2 ?_)
  have : ∀ n : Fin 20, 1 ≤ (nb n).card := by decide +kernel
  exact this _

/-- One round, at row `r`. `cnt` holds the numbers of messages, `ix` and `jx` the rows taken and added into, `ok` says that
    the rows taken exist, and `junk` is what would replace those that don't. -/
theorem settle_apply {H W : ℕ} (Y : ℕ → Fin H → Fin W → ℝ) (x : FVec Ideal ⟨3, ![81920, H, W]⟩ .f32)
    (hx : ∀ (r : Fin 81920) h f, x (ix3 r h f) = ((Y r.val h f : ℝ) : EReal))
    (cnt : FVec Ideal ⟨1, ![81920]⟩ .f32) (hcnt : ∀ r : Fin 81920, cnt (ix1 r) = ((deg r.val : ℝ) : EReal))
    (ix jx : IVec ⟨2, ![140, 1]⟩ 32) (hi : ∀ e, (ix (ix2 e 0)).toInt = ((src e).val : ℤ)) (hj : ∀ e, (jx (ix2 e 0)).toInt = ((dst e).val : ℤ))
    (ok : IVec ⟨1, ![140]⟩ 1) (hok : ∀ e, ok (ix1 e) = 1#1) (junk : FVec Ideal ⟨3, ![140, H, W]⟩ .f32)
    (wfg : GatherDims.WF ⟨3, ![81920, H, W]⟩ ⟨2, ![140, 1]⟩ ⟨3, ![140, H, W]⟩ [1, 2] [0] [] [0] [] 1 ![1, H, W])
    (wfs : ScatterDims.WF ⟨3, ![81920, H, W]⟩ ⟨2, ![140, 1]⟩ ⟨3, ![140, H, W]⟩ [1, 2] [0] [0] 1)
    (b1 : (⟨3, ![81920, 1, 1]⟩ : Shape).BroadcastsInDim ⟨3, ![81920, H, W]⟩ ![0, 1, 2])
    (b2 : (⟨1, ![81920]⟩ : Shape).BroadcastsInDim ⟨3, ![81920, 1, 1]⟩ ![0])
    (b3 : (⟨0, ![]⟩ : Shape).BroadcastsInDim ⟨1, ![81920]⟩ ![])
    (b4 : (⟨0, ![]⟩ : Shape).BroadcastsInDim ⟨3, ![81920, H, W]⟩ ![])
    (b5 : (⟨1, ![140]⟩ : Shape).BroadcastsInDim ⟨3, ![140, H, W]⟩ ![0])
    (r : Fin 81920) (h : Fin H) (f : Fin W) :
    select (broadcastInDim ⟨3, ![81920, H, W]⟩ ![0, 1, 2] b1 (broadcastInDim ⟨3, ![81920, 1, 1]⟩ ![0] b2
        (cmpf .ogt cnt (broadcastInDim ⟨1, ![81920]⟩ ![] b3 (constant ⟨0, ![]⟩ .f32 0x00000000#32)))))
      (Host.divf (Host.scatterAdd (addRows 81920 140 H W wfs) (broadcastInDim ⟨3, ![81920, H, W]⟩ ![] b4 (constant ⟨0, ![]⟩ .f32 0x00000000#32)) jx
          (select (broadcastInDim ⟨3, ![140, H, W]⟩ ![0] b5 ok) (Host.gather (takeRows 81920 140 H W wfg) x ix) junk))
        (broadcastInDim ⟨3, ![81920, H, W]⟩ ![0, 1, 2] b1 (broadcastInDim ⟨3, ![81920, 1, 1]⟩ ![0] b2
          (maximumf cnt (broadcastInDim ⟨1, ![81920]⟩ ![] b3 (constant ⟨0, ![]⟩ .f32 0x3F800000#32))))))
      x (ix3 r h f) = ((settle (fun r => Y r h f) r.val : ℝ) : EReal) := by
  have hb : ∀ {α : Type} (v : (⟨1, ![81920]⟩ : Shape).Idx → α), broadcastInDim ⟨3, ![81920, H, W]⟩ ![0, 1, 2] b1 (broadcastInDim ⟨3, ![81920, 1, 1]⟩ ![0] b2 v) (ix3 r h f)
      = v (ix1 r) := fun v =>
    (broadcastInDim_apply _ _ _ _ (ix3 r 0 0) fun a => match a with
      | ⟨0, _⟩ => rfl
      | ⟨1, _⟩ => rfl
      | ⟨2, _⟩ => rfl).trans
    (broadcastInDim_apply _ _ _ _ (ix1 r) fun a => match a with
      | ⟨0, _⟩ => rfl)
  have hmsg : ∀ e, (select (broadcastInDim ⟨3, ![140, H, W]⟩ ![0] b5 ok) (Host.gather (takeRows 81920 140 H W wfg) x ix) junk) (ix3 e h f)
      = ((Y (src e).val h f : ℝ) : EReal) := by
    intro e
    have hm : broadcastInDim ⟨3, ![140, H, W]⟩ ![0] b5 ok (ix3 e h f) = 1#1 :=
      (broadcastInDim_apply _ _ _ _ (ix1 e) fun a => match a with
        | ⟨0, _⟩ => rfl).trans (hok e)
    show Scalar.select (broadcastInDim ⟨3, ![140, H, W]⟩ ![0] b5 ok (ix3 e h f)) _ _ = _
    rw [hm]
    show Host.gather (takeRows 81920 140 H W wfg) x ix (ix3 e h f) = _
    rw [take_rows_apply wfg x ix e h f ⟨(src e).val, by have := (src e).isLt; omega⟩ (hi e), hx]
  have hsel : ∀ (c : IVec ⟨3, ![81920, H, W]⟩ 1) (u v : FVec Ideal ⟨3, ![81920, H, W]⟩ .f32) i, select c u v i = Scalar.select (c i) (u i) (v i) :=
    fun _ _ _ _ => rfl
  have hdiv : ∀ (u v : FVec Ideal ⟨3, ![81920, H, W]⟩ .f32) i, Host.divf u v i = Ideal.div (u i) (v i) := fun _ _ _ => rfl
  rw [hsel, hdiv]
  rw [hb, hb, add_rows_apply, Finset.sum_congr rfl fun e _ => hmsg e, hx]
  simp only [hj]
  rw [← coe_sum, sum_row (fun n => Y n.val h f)]
  show Scalar.select (Ideal.cmp .ogt (cnt (ix1 r)) (FloatOps.ofBits (F := Ideal) .f32 0x00000000#32))
    (Ideal.div (FloatOps.ofBits (F := Ideal) .f32 0x00000000#32 + _) (max (cnt (ix1 r)) (FloatOps.ofBits (F := Ideal) .f32 0x3F800000#32))) _ = _
  rw [hcnt, Consts.f32_zero, Consts.f32_one, ← EReal.coe_add, zero_add, ← EReal.coe_strictMono.monotone.map_max]
  unfold settle
  by_cases h20 : r.val < 20
  · rw [dif_pos h20, dif_pos h20, max_deg _ h20, Ideal.div_coe (by rw [← max_deg _ h20]; positivity), ← EReal.coe_mul, mul_one_div]
    have : (0 : ℝ) < deg r.val := (deg_pos_iff _).2 h20
    simp [Ideal.cmp, Scalar.select, this, avg]
  · rw [dif_neg h20, dif_neg h20]
    have : ¬(0 : ℝ) < deg r.val := fun h => h20 ((deg_pos_iff _).1 h)
    simp [Ideal.cmp, Scalar.select, this]

/-! ## The reference's own index arrays -/

variable (V0 : Valuation τ sig (Elt Ideal))

/-- The rows taken, in either layer. -/
theorem rows_taken (e : Fin 140) : (res_main_call1_v5 V0 (ix2 e 0)) = norm (ReferenceIdeal.lit0 (S140.rowMajor (ix1 e))) :=
  broadcastInDim_apply _ _ _ _ (ix1 e) fun a => match a with
    | ⟨0, _⟩ => rfl

/-- The rows added into. -/
abbrev rowsInto : IVec S140x1 32 :=
  broadcastInDim S140x1 ![0] bcast_S140_S140x1_0 (select (cmpi .slt (res_main_c_0 V0) (broadcastInDim S140 ![] bcast_S_S140 (constantI S_ 32 0#32))) (addi (res_main_c_0 V0) (broadcastInDim S140 ![] bcast_S_S140 (constantI S_ 32 81920#32))) (res_main_c_0 V0))

theorem rows_into (e : Fin 140) : (rowsInto V0 (ix2 e 0)) = norm (ReferenceIdeal.lit1 (S140.rowMajor (ix1 e))) :=
  broadcastInDim_apply _ _ _ _ (ix1 e) fun a => match a with
    | ⟨0, _⟩ => rfl

/-- Every row taken exists. -/
theorem rows_ok (e : S140.Idx) : Host.reduce IntOp.andi (andi (cmpi .sge (res_main_call1_v5 V0) (broadcastInDim S140x1 ![] bcast_S_S140x1 (constantI S_ 32 0#32))) (cmpi .sle (res_main_call1_v5 V0) (broadcastInDim S140x1 ![0, 1] bcast_S1x1_S140x1_0_1 (broadcastInDim S1x1 ![1] bcast_S1_S1x1_1 (constantI S1 32 81919#32))))) (constantI S_ 1 1#1) reducesTo_S140x1_S140_d1 h_S_ e = 1#1 := by
  refine Host.reduce_andi_one _ _ _ _ _ rfl fun i => ?_
  obtain ⟨a, b, rfl⟩ : ∃ a b, i = ix2 a b := ⟨_, _, eq_ix2 i⟩
  obtain rfl : b = 0 := Subsingleton.elim _ _
  show IntOp.andi (IntOp.cmpi .sge (res_main_call1_v5 V0 (ix2 a 0)) 0#32) (IntOp.cmpi .sle (res_main_call1_v5 V0 (ix2 a 0)) 81919#32) = 1#1
  rw [rows_taken]
  exact src_ok a

/-- The numbers of messages. -/
theorem counts (r : Fin 81920) : res_main_v27 V0 (ix1 r) = ((deg r.val : ℝ) : EReal) := by
  refine (add_nums_apply scatter_S81920_S140x1_S140_n_0_0_1.wf _ (rowsInto V0) _ r).trans ?_
  show FloatOps.ofBits (F := Ideal) .f32 0x00000000#32 + ∑ e ∈ _, FloatOps.ofBits (F := Ideal) .f32 0x3F800000#32 = _
  simp only [rows_into, dst_row]
  rw [Consts.f32_zero, Consts.f32_one, ← coe_sum, sum_row (fun _ => 1), ← EReal.coe_add, zero_add]
  unfold deg
  simp

end Cert.RefMean
-- ==== Proof.RefOps.lean ====
/- The reference's operations on matrices of finite values: a vector repeated along the rows, the exponential linear
   unit, a normalization with running numbers, a product with transposed weights, and sums. -/
module

public import proofs.«01_k».proof.Proof.Finite
public import Idealize.ShloMosaic.Lib.Pipeline.Value

@[expose] public section

noncomputable section

namespace Cert.RefOps

open Idealize.ShloMosaic Idealize.ShloMosaic.ValueIdx
open Cert.Model Cert.Lift Cert.Finite
open scoped BigOperators

variable {M K N : ℕ}

/-- A vector repeated along the rows. -/
theorem row_apply {α : Type} (v : (⟨1, ![N]⟩ : Shape).Idx → α) (h2 : (⟨2, ![1, N]⟩ : Shape).BroadcastsInDim ⟨2, ![M, N]⟩ ![0, 1])
    (h1 : (⟨1, ![N]⟩ : Shape).BroadcastsInDim ⟨2, ![1, N]⟩ ![1]) (r : Fin M) (c : Fin N) :
    broadcastInDim ⟨2, ![M, N]⟩ ![0, 1] h2 (broadcastInDim ⟨2, ![1, N]⟩ ![1] h1 v) (ix2 r c) = v (ix1 c) := by
  refine (broadcastInDim_apply _ _ _ _ (ix2 0 c) fun a => ?_).trans (broadcastInDim_apply _ _ _ _ (ix1 c) fun a => ?_)
  · match a with
    | ⟨0, _⟩ => rfl
    | ⟨1, _⟩ =>
      show c.val = if N = 1 then 0 else c.val
      split <;> omega
  · match a with
    | ⟨0, _⟩ =>
      show c.val = if N = 1 then 0 else c.val
      split <;> omega

theorem row_mat (v : Fin N → ℝ) (h2 : (⟨2, ![1, N]⟩ : Shape).BroadcastsInDim ⟨2, ![M, N]⟩ ![0, 1])
    (h1 : (⟨1, ![N]⟩ : Shape).BroadcastsInDim ⟨2, ![1, N]⟩ ![1]) :
    broadcastInDim ⟨2, ![M, N]⟩ ![0, 1] h2 (broadcastInDim ⟨2, ![1, N]⟩ ![1] h1 (vecUp v)) = matUp fun _ c => v c :=
  matUp_ext _ _ fun r c => row_apply _ _ _ r c

/-- A matrix with every entry the same constant. -/
theorem const_mat (bits : BitVec 32) (a : ℝ) (ha : FloatOps.ofBits (F := Ideal) .f32 bits = ((a : ℝ) : EReal))
    (h : (⟨0, ![]⟩ : Shape).BroadcastsInDim ⟨2, ![M, N]⟩ ![]) :
    broadcastInDim ⟨2, ![M, N]⟩ ![] h (constant (F := Ideal) ⟨0, ![]⟩ .f32 bits) = matUp fun _ _ => a :=
  matUp_ext _ _ fun _ _ => ha

/-- The exponential linear unit as the reference writes it. -/
theorem elu_mat (A : Fin M → Fin N → ℝ) (h : (⟨0, ![]⟩ : Shape).BroadcastsInDim ⟨2, ![M, N]⟩ ![]) :
    select (cmpf .ogt (matUp A : FVec Ideal ⟨2, ![M, N]⟩ .f32) (broadcastInDim ⟨2, ![M, N]⟩ ![] h (constant (F := Ideal) ⟨0, ![]⟩ .f32 0x00000000#32))) (matUp A)
      (mulf (broadcastInDim ⟨2, ![M, N]⟩ ![] h (constant (F := Ideal) ⟨0, ![]⟩ .f32 0x3F800000#32))
        (Host.expm1 (select (cmpf .ogt (matUp A : FVec Ideal ⟨2, ![M, N]⟩ .f32) (broadcastInDim ⟨2, ![M, N]⟩ ![] h (constant (F := Ideal) ⟨0, ![]⟩ .f32 0x00000000#32)))
          (broadcastInDim ⟨2, ![M, N]⟩ ![] h (id (constant (F := Ideal) ⟨0, ![]⟩ .f32 0x00000000#32))) (matUp A))))
      = matUp fun r c => elu (A r c) := by
  rw [id_eq, const_mat _ 0 Consts.f32_zero h, const_mat _ 1 Consts.f32_one h]
  unfold matUp
  rw [select_ogt_up, expm1_up, mulf_up, select_ogt_up]
  funext i
  unfold up elu
  by_cases hi : 0 < A (i 0) (i 1)
  · simp [hi]
  · simp [hi]

/-- A normalization with running mean and variance, scale and offset. -/
theorem norm_mat (A : Fin M → Fin N → ℝ) (m a c r : Fin N → ℝ) (v : V1 N) (hv : InvStd v r)
    (h2 : (⟨2, ![1, N]⟩ : Shape).BroadcastsInDim ⟨2, ![M, N]⟩ ![0, 1]) (h1 : (⟨1, ![N]⟩ : Shape).BroadcastsInDim ⟨2, ![1, N]⟩ ![1])
    (h0 : (⟨0, ![]⟩ : Shape).BroadcastsInDim ⟨1, ![N]⟩ ![]) :
    addf (F := Ideal) (φ := .f32) (mulf (Host.divf (subf (matUp A) (broadcastInDim ⟨2, ![M, N]⟩ ![0, 1] h2 (broadcastInDim ⟨2, ![1, N]⟩ ![1] h1 (vecUp m))))
          (broadcastInDim ⟨2, ![M, N]⟩ ![0, 1] h2 (broadcastInDim ⟨2, ![1, N]⟩ ![1] h1
            (Host.sqrt (addf v (broadcastInDim ⟨1, ![N]⟩ ![] h0 (constant ⟨0, ![]⟩ .f32 0x3727C5AC#32)))))))
        (broadcastInDim ⟨2, ![M, N]⟩ ![0, 1] h2 (broadcastInDim ⟨2, ![1, N]⟩ ![1] h1 (vecUp a))))
      (broadcastInDim ⟨2, ![M, N]⟩ ![0, 1] h2 (broadcastInDim ⟨2, ![1, N]⟩ ![1] h1 (vecUp c)))
      = matUp fun i j => (A i j - m j) * r j * a j + c j := by
  rw [row_mat, row_mat, row_mat, subf_mat]
  refine matUp_ext _ _ fun i j => ?_
  show Ideal.div ((A i j - m j : ℝ) : EReal) (broadcastInDim ⟨2, ![M, N]⟩ ![0, 1] h2 (broadcastInDim ⟨2, ![1, N]⟩ ![1] h1
    (Host.sqrt (addf (F := Ideal) (φ := .f32) v (broadcastInDim ⟨1, ![N]⟩ ![] h0 (constant ⟨0, ![]⟩ .f32 0x3727C5AC#32))))) (ix2 i j)) * ((a j : ℝ) : EReal) + ((c j : ℝ) : EReal) = _
  rw [row_apply]
  show Ideal.div _ (Ideal.sqrt (v (ix1 j) + FloatOps.ofBits (F := Ideal) .f32 0x3727C5AC#32)) * _ + _ = _
  rw [Consts.f32_eps, hv.div, EReal.coe_add, EReal.coe_mul (_ * _) (a j)]

/-- A product with transposed weights. -/
theorem dot_mat (A : Fin M → Fin K → ℝ) (B : Fin N → Fin K → ℝ) (h : (⟨2, ![N, K]⟩ : Shape).Transposes [1, 0] ⟨2, ![K, N]⟩) :
    Host.dotGeneral (F := Ideal) (φ₁ := .f32) (φ₂ := .f32) (DotDims.plain M K N) none (matUp A) (transpose ⟨2, ![K, N]⟩ [1, 0] (matUp B) h)
      = matUp fun r c => ∑ k, A r k * B c k := by
  have ht : transpose ⟨2, ![K, N]⟩ [1, 0] (matUp B) h = matUp fun k c => B c k := by
    refine matUp_ext _ _ fun k c => (transpose_apply _ _ _ _ (ix2 c k) fun b => ?_)
    match b with
    | ⟨0, _⟩ => rfl
    | ⟨1, _⟩ => rfl
  rw [ht]
  refine matUp_ext _ _ fun r c => (Ideal.matmul_plain_apply (φ₁ := .f32) (φ₂ := .f32) none _ _ (fun _ => 0) r c).trans ?_
  rw [coe_sum, zero_add]
  exact Finset.sum_congr rfl fun k _ => (EReal.coe_mul _ _).symm

/-- The sum of each row. -/
theorem sum_rows (A : Fin M → Fin N → ℝ) (h' : (⟨2, ![M, N]⟩ : Shape).ReducesTo [1] ⟨1, ![M]⟩) (h : (⟨2, ![M, N]⟩ : Shape).Reduces [1] ⟨1, ![M]⟩)
    (hu : 0 < (⟨0, ![]⟩ : Shape).numel) (r : Fin M) :
    Host.reduceAdd (F := Ideal) (matUp A) (constant ⟨0, ![]⟩ .f32 0x00000000#32) h' hu (ix1 r) = ((∑ c, A r c : ℝ) : EReal) := by
  rw [hostReduceAdd_apply, Ideal.hostReduceAdd_single h' h]
  show FloatOps.ofBits (F := Ideal) .f32 0x00000000#32 + _ = _
  rw [Consts.f32_zero, coe_sum, EReal.coe_zero, zero_add]
  refine Finset.sum_congr rfl fun c _ => ?_
  show matUp A _ = matUp A (ix2 r c)
  congr 1
  funext a
  match a with
  | ⟨0, _⟩ => rfl
  | ⟨1, _⟩ => rfl

/-- The sum over the middle of three axes. -/
theorem sum_middle (x : FVec Ideal ⟨3, ![M, K, N]⟩ .f32) (A : Fin M → Fin K → Fin N → ℝ) (hx : ∀ b n o, x (ix3 b n o) = ((A b n o : ℝ) : EReal))
    (h' : (⟨3, ![M, K, N]⟩ : Shape).ReducesTo [1] ⟨2, ![M, N]⟩) (h : (⟨3, ![M, K, N]⟩ : Shape).Reduces [1] ⟨2, ![M, N]⟩)
    (hu : 0 < (⟨0, ![]⟩ : Shape).numel) :
    Host.reduceAdd (F := Ideal) x (constant ⟨0, ![]⟩ .f32 0x00000000#32) h' hu = matUp fun b o => ∑ n, A b n o := by
  refine matUp_ext _ _ fun b o => ?_
  rw [hostReduceAdd_apply, Ideal.hostReduceAdd_single h' h]
  show FloatOps.ofBits (F := Ideal) .f32 0x00000000#32 + _ = _
  rw [Consts.f32_zero, coe_sum, EReal.coe_zero, zero_add]
  refine Finset.sum_congr rfl fun n _ => Eq.trans ?_ (hx b n o)
  congr 1
  funext a
  match a with
  | ⟨0, _⟩ => rfl
  | ⟨1, _⟩ => rfl
  | ⟨2, _⟩ => rfl

/-- A column repeated along each row. -/
theorem col_apply {α : Type} (v : (⟨2, ![M, 1]⟩ : Shape).Idx → α) (h : (⟨2, ![M, 1]⟩ : Shape).BroadcastsInDim ⟨2, ![M, N]⟩ ![0, 1])
    (r : Fin M) (c : Fin N) : broadcastInDim ⟨2, ![M, N]⟩ ![0, 1] h v (ix2 r c) = v (ix2 r 0) := by
  refine broadcastInDim_apply _ _ _ _ (ix2 r 0) fun a => ?_
  match a with
  | ⟨0, _⟩ =>
    show r.val = if M = 1 then 0 else r.val
    split <;> omega
  | ⟨1, _⟩ => rfl

/-- A vector as a column. -/
theorem ascol_apply {α : Type} (v : (⟨1, ![M]⟩ : Shape).Idx → α) (h : (⟨1, ![M]⟩ : Shape).BroadcastsInDim ⟨2, ![M, 1]⟩ ![0])
    (r : Fin M) (c : Fin 1) : broadcastInDim ⟨2, ![M, 1]⟩ ![0] h v (ix2 r c) = v (ix1 r) := by
  refine broadcastInDim_apply _ _ _ _ (ix1 r) fun a => ?_
  match a with
  | ⟨0, _⟩ =>
    show r.val = if M = 1 then 0 else r.val
    split <;> omega

end Cert.RefOps
-- ==== Proof.RefLayers.lean ====
/- The reference's two layers on arguments with finite values: what its flat arrays of nodes hold. Row `r` of such an
   array is node `r % 20` of sample `r / 20`, and the messages run between the first twenty rows alone. -/
module

public import proofs.«01_k».proof.Proof.RefMean
public import proofs.«01_k».proof.Proof.RefOps

@[expose] public section

noncomputable section

namespace Cert.RefValue

open Idealize.ShloMosaic Idealize.ShloMosaic.ValueIdx
open Cert.Model Cert.Lift Cert.Finite Cert.RefMean Cert.RefOps
open Cert.ReferenceIdeal Cert.ReferenceIdeal.Gen Cert.ReferenceIdeal.Value
open scoped BigOperators

/-- The input number of a row. -/
def flat (X : Fin 4096 → Fin 20 → ℝ) (r : ℕ) : ℝ := X ⟨r / 20 % 4096, Nat.mod_lt _ (by norm_num)⟩ ⟨r % 20, Nat.mod_lt _ (by norm_num)⟩

theorem flat_eq (X : Fin 4096 → Fin 20 → ℝ) (b : Fin 4096) (n : Fin 20) : flat X (20 * b.val + n.val) = X b n := by
  unfold flat
  have hb : (⟨(20 * b.val + n.val) / 20 % 4096, Nat.mod_lt _ (by norm_num)⟩ : Fin 4096) = b := Fin.ext (by
    show (20 * b.val + n.val) / 20 % 4096 = b.val
    omega)
  have hn : (⟨(20 * b.val + n.val) % 20, Nat.mod_lt _ (by norm_num)⟩ : Fin 20) = n := Fin.ext (by
    show (20 * b.val + n.val) % 20 = n.val
    omega)
  rw [hb, hn]

/-- A row's first layer, after its messages. -/
def first (P : Net) (X : Fin 4096 → Fin 20 → ℝ) (r : ℕ) (j : Fin 256) : ℝ := settle (fun r => lin1 P (flat X r) j) r

/-- A row's second layer, after its messages. -/
def second (P : Net) (X : Fin 4096 → Fin 20 → ℝ) (r : ℕ) (o : Fin 128) : ℝ := settle (fun r => lin2 P (first P X r) o) r

/-- The second layer of a row is that of its node in its sample. -/
theorem second_eq (P : Net) (X : Fin 4096 → Fin 20 → ℝ) (b : Fin 4096) (n : Fin 20) (o : Fin 128) :
    second P X (20 * b.val + n.val) o = nodes P b.val (X b) n o := by
  unfold second nodes
  by_cases hb : b = 0
  · subst hb
    have h0 : ∀ m : Fin 20, flat X m.val = X 0 m := fun m => by
      have := flat_eq X 0 m
      rwa [show 20 * (0 : Fin 4096).val + m.val = m.val by simp] at this
    have h1 : ∀ m : Fin 20, first P X m.val = fun j => avg (fun l => lin1 P (X 0 l) j) m := fun m => by
      funext j
      unfold first settle
      rw [dif_pos m.isLt]
      simp only [h0]
    rw [if_pos (show (0 : Fin 4096).val = 0 from rfl), show 20 * (0 : Fin 4096).val + n.val = n.val by simp]
    unfold settle mixed
    rw [dif_pos n.isLt]
    simp only [h1]
  · have hb' : b.val ≠ 0 := fun h => hb (Fin.ext h)
    have h20 : ¬20 * b.val + n.val < 20 := by omega
    have h1 : first P X (20 * b.val + n.val) = lin1 P (X b n) := by
      funext j
      unfold first settle
      rw [dif_neg h20]
      beta_reduce
      rw [flat_eq]
    rw [if_neg hb']
    unfold settle plain
    rw [dif_neg h20]
    beta_reduce
    rw [h1]

/-! ## Three axes and two -/

/-- A matrix cut into `H` groups of `W` columns. -/
theorem split_apply {M H W N : ℕ} (hN : H * W = N) (A : Fin M → Fin N → ℝ) (hs : (⟨2, ![M, N]⟩ : Shape).ShapeCasts ⟨3, ![M, H, W]⟩)
    (r : Fin M) (h : Fin H) (f : Fin W) (hlt : h.val * W + f.val < N) :
    shapeCast ⟨3, ![M, H, W]⟩ (matUp A) hs (ix3 r h f) = ((A r ⟨h.val * W + f.val, hlt⟩ : ℝ) : EReal) := by
  refine (shapeCast_apply _ _ _ (ix2 r ⟨h.val * W + f.val, hlt⟩) ?_).trans rfl
  rw [Shape.rowMajor_val_two, Shape.rowMajor_val_three]
  show r.val * N + (h.val * W + f.val) = (r.val * H + h.val) * W + f.val
  subst hN
  ring

/-- Groups of columns joined into a matrix. -/
theorem join_mat {M H W N : ℕ} (hN : H * W = N) (x : (⟨3, ![M, H, W]⟩ : Shape).Idx → EReal) (A : Fin M → Fin N → ℝ)
    (hx : ∀ r (h : Fin H) (f : Fin W) (hlt : h.val * W + f.val < N), x (ix3 r h f) = ((A r ⟨h.val * W + f.val, hlt⟩ : ℝ) : EReal))
    (hs : (⟨3, ![M, H, W]⟩ : Shape).ShapeCasts ⟨2, ![M, N]⟩) : shapeCast ⟨2, ![M, N]⟩ x hs = matUp A := by
  refine matUp_ext _ _ fun r c => ?_
  have hW : 0 < W := by
    rcases Nat.eq_zero_or_pos W with h | h
    · subst h; subst hN; exact absurd c.isLt (by simp)
    · exact h
  have hc : c.val / W < H := (Nat.div_lt_iff_lt_mul hW).2 (hN ▸ c.isLt)
  have hd : c.val / W * W + c.val % W = c.val := Nat.div_add_mod' _ _
  refine (shapeCast_apply _ _ _ (ix3 r ⟨c.val / W, hc⟩ ⟨c.val % W, Nat.mod_lt _ hW⟩) ?_).trans ((hx r ⟨c.val / W, hc⟩ ⟨c.val % W, Nat.mod_lt _ hW⟩ (by show c.val / W * W + c.val % W < N; rw [hd]; exact c.isLt)).trans ?_)
  · rw [Shape.rowMajor_val_two, Shape.rowMajor_val_three]
    show (r.val * H + c.val / W) * W + c.val % W = r.val * N + c.val
    calc (r.val * H + c.val / W) * W + c.val % W = r.val * (H * W) + (c.val / W * W + c.val % W) := by ring
      _ = _ := by rw [hN, hd]
  · congr 2
    exact Fin.ext hd

/-! ## The layers -/

variable {P : Net} {X : Fin 4096 → Fin 20 → ℝ} (V0 : Valuation τ sig (Elt Ideal))

/-- The arguments hold the numbers of `P` and `X`. -/
abbrev Ref (P : Net) (X : Fin 4096 → Fin 20 → ℝ) (V0 : Valuation τ sig (Elt Ideal)) : Prop :=
  Holds P X (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) (V0 (Proc.devRef .tc main_arg11))
    (V0 (Proc.devRef .tc main_arg12))

/-- The samples one below the other. -/
theorem flat_mat (X : Fin 4096 → Fin 20 → ℝ) : shapeCast S81920x1 (matUp X) shapeCasts_S4096x20_S81920x1 = matUp fun r _ => flat X r.val := by
  refine matUp_ext _ _ fun r c => ?_
  have hr := r.isLt
  refine (shapeCast_apply _ _ _ (ix2 (⟨r.val / 20 % 4096, Nat.mod_lt _ (by norm_num)⟩ : Fin 4096) (⟨r.val % 20, Nat.mod_lt _ (by norm_num)⟩ : Fin 20)) ?_).trans rfl
  rw [Shape.rowMajor_val_two, Shape.rowMajor_val_two]
  show r.val / 20 % 4096 * 20 + r.val % 20 = r.val * 1 + c.val
  omega

/-- The first layer's linear map. -/
theorem v9_apply (hV : Ref P X V0) (r : Fin 81920) (h : Fin 4) (f : Fin 64) (hlt : h.val * 64 + f.val < 256) :
    res_main_v9 V0 (ix3 r h f) = ((lin1 P (flat X r.val) ⟨h.val * 64 + f.val, hlt⟩ : ℝ) : EReal) := by
  unfold res_main_v9
  rw [hV.x, hV.pw, hV.pb, hV.g1, flat_mat, row_mat, const_mat _ 0 Consts.f32_zero]
  have hd1 : ∀ (A : Fin 81920 → Fin 1 → ℝ) (B : Fin 64 → Fin 1 → ℝ), Host.dotGeneral (F := Ideal) (φ₁ := .f32) (φ₂ := .f32) dot_S81920x1_S1x64_S81920x64_1_0_0_1_n_n none (matUp A)
      (transpose S1x64 [1, 0] (matUp B) transposes_S64x1_S1x64_1_0) = _ := fun A B => dot_mat A B _
  have hd2 : ∀ (A : Fin 81920 → Fin 64 → ℝ) (B : Fin 256 → Fin 64 → ℝ), Host.dotGeneral (F := Ideal) (φ₁ := .f32) (φ₂ := .f32) dot_S81920x64_S64x256_S81920x256_1_0_0_1_n_n none (matUp A)
      (transpose S64x256 [1, 0] (matUp B) transposes_S256x64_S64x256_1_0) = _ := fun A B => dot_mat A B _
  rw [hd1, addf_mat, maximumf_mat, hd2]
  refine (split_apply rfl _ _ r h f hlt).trans ?_
  simp only [Fin.sum_univ_one]
  rfl

/-- The first layer after its messages. -/
theorem v37_mat (hV : Ref P X V0) : res_main_v37 V0 = matUp fun r j => first P X r.val j := by
  unfold res_main_v37
  refine join_mat (N := 256) rfl _ _ (fun r h f hlt => ?_) _
  exact settle_apply (fun r h f => lin1 P (flat X r) ⟨h.val * 64 + f.val, by have := h.isLt; have := f.isLt; omega⟩) (res_main_v9 V0)
    (fun r h f => v9_apply V0 hV r h f _) (res_main_v27 V0) (counts V0) (res_main_call1_v5 V0) (rowsInto V0)
    (fun e => (congrArg BitVec.toInt (rows_taken V0 e)).trans (Edges.src_row e)) (fun e => (congrArg BitVec.toInt (rows_into V0 e)).trans (Edges.dst_row e))
    _ (fun e => rows_ok V0 _) _ gather_S81920x4x64_S140x1_S140x4x64_12_0_n_n_0_1_1464.wf scatter_S81920x4x64_S140x1_S140x4x64_12_0_0_1.wf
    bcast_S81920x1x1_S81920x4x64_0_1_2 bcast_S81920_S81920x1x1_0 bcast_S_S81920 bcast_S_S81920x4x64 bcast_S140_S140x4x64_0 r h f

/-- The second layer's linear map. -/
theorem v56_apply (hV : Ref P X V0) (r : Fin 81920) (h : Fin 4) (f : Fin 32) (hlt : h.val * 32 + f.val < 128) :
    res_main_v56 V0 (ix3 r h f) = ((lin2 P (first P X r.val) ⟨h.val * 32 + f.val, hlt⟩ : ℝ) : EReal) := by
  unfold res_main_v56
  have hd : ∀ (A : Fin 81920 → Fin 256 → ℝ) (B : Fin 128 → Fin 256 → ℝ), Host.dotGeneral (F := Ideal) (φ₁ := .f32) (φ₂ := .f32) dot_S81920x256_S256x128_S81920x128_1_0_0_1_n_n none (matUp A)
      (transpose S256x128 [1, 0] (matUp B) transposes_S128x256_S256x128_1_0) = _ := fun A B => dot_mat A B _
  rw [v37_mat V0 hV, elu_mat, hV.m1, hV.a1, hV.c1, norm_mat _ _ _ _ P.r1 _ hV.v1, hV.g2, hd]
  exact split_apply rfl _ _ r h f hlt

/-- The second layer after its messages. -/
theorem v84_mat (hV : Ref P X V0) : res_main_v84 V0 = matUp fun r o => second P X r.val o := by
  unfold res_main_v84
  refine join_mat (N := 128) rfl _ _ (fun r h f hlt => ?_) _
  exact settle_apply (fun r h f => lin2 P (first P X r) ⟨h.val * 32 + f.val, by have := h.isLt; have := f.isLt; omega⟩) (res_main_v56 V0)
    (fun r h f => v56_apply V0 hV r h f _) (res_main_v74 V0) (counts V0) (res_main_call4_v5 V0) (rowsInto V0)
    (fun e => (congrArg BitVec.toInt (rows_taken V0 e)).trans (Edges.src_row e)) (fun e => (congrArg BitVec.toInt (rows_into V0 e)).trans (Edges.dst_row e))
    _ (fun e => rows_ok V0 _) _ gather_S81920x4x32_S140x1_S140x4x32_12_0_n_n_0_1_1432.wf scatter_S81920x4x32_S140x1_S140x4x32_12_0_0_1.wf
    bcast_S81920x1x1_S81920x4x32_0_1_2 bcast_S81920_S81920x1x1_0 bcast_S_S81920 bcast_S_S81920x4x32 bcast_S140_S140x4x32_0 r h f

end Cert.RefValue
-- ==== Proof.RefValue.lean ====
/- The reference's result on arguments with finite values: the network's result at every sample. -/
module

public import proofs.«01_k».proof.Proof.RefLayers

@[expose] public section

noncomputable section

namespace Cert.RefValue

open Idealize.ShloMosaic Idealize.ShloMosaic.ValueIdx
open Cert.Model Cert.Lift Cert.Finite Cert.RefMean Cert.RefOps
open Cert.ReferenceIdeal Cert.ReferenceIdeal.Gen Cert.ReferenceIdeal.Value
open scoped BigOperators

/-- A flat array of nodes by sample and node. -/
theorem samples_apply (A : Fin 81920 → Fin 128 → ℝ) (b : Fin 4096) (n : Fin 20) (o : Fin 128) (hlt : 20 * b.val + n.val < 81920) :
    shapeCast S4096x20x128 (matUp A) shapeCasts_S81920x128_S4096x20x128 (ix3 b n o) = ((A ⟨20 * b.val + n.val, hlt⟩ o : ℝ) : EReal) := by
  refine (shapeCast_apply _ _ _ (ix2 (⟨20 * b.val + n.val, hlt⟩ : Fin 81920) o) ?_).trans rfl
  rw [Shape.rowMajor_val_two, Shape.rowMajor_val_three]
  show (20 * b.val + n.val) * 128 + o.val = (b.val * 20 + n.val) * 128 + o.val
  ring

/-- Division by a constant that isn't zero. -/
theorem div_const_mat {M N : ℕ} (A : Fin M → Fin N → ℝ) (d : ℝ) (hd : d ≠ 0) :
    Host.divf (F := Ideal) (φ := .f32) (matUp A) (matUp fun _ _ => d) = matUp fun r c => A r c / d :=
  hostDivf_up _ _ fun _ => hd

variable {P : Net} {X : Fin 4096 → Fin 20 → ℝ} (V0 : Valuation τ sig (Elt Ideal))

/-- What the layer normalization is applied to. -/
abbrev pooled (P : Net) (X : Fin 4096 → Fin 20 → ℝ) (b : Fin 4096) : Fin 128 → ℝ := pool P (nodes P b.val (X b))

/-- The mean over the nodes. -/
theorem v104_mat (hV : Ref P X V0) : res_main_v104 V0 = matUp (pooled P X) := by
  unfold res_main_v104
  rw [v84_mat V0 hV, elu_mat, hV.m2, hV.a2, hV.c2, norm_mat _ _ _ _ P.r2 _ hV.v2,
    sum_middle _ (fun b n o => bn2 P (elu (nodes P b.val (X b) n o)) o) (fun b n o => ?_) _ (by decide), const_mat _ 20 Consts.f32_20,
    div_const_mat _ _ (by norm_num)]
  · rfl
  · have hlt : 20 * b.val + n.val < 81920 := by have := b.isLt; have := n.isLt; omega
    refine (samples_apply _ b n o hlt).trans ?_
    rw [← second_eq]
    rfl

/-- The mean of each sample's numbers. -/
theorem v108_mat (hV : Ref P X V0) : res_main_v108 V0 = matUp fun b _ => mean (pooled P X b) := by
  unfold res_main_v108
  rw [v104_mat V0 hV, const_mat _ 128 Consts.f32_128]
  have hs : broadcastInDim S4096x1 ![0] bcast_S4096_S4096x1_0 (Host.reduceAdd (F := Ideal) (matUp (pooled P X)) (constant S_ .f32 0x00000000#32) reducesTo_S4096x128_S4096_d1 h_S_)
      = matUp fun b _ => ∑ o, pooled P X b o := matUp_ext _ _ fun r c => (ascol_apply _ _ r c).trans (sum_rows _ _ (by decide) _ r)
  rw [hs, div_const_mat _ _ (by norm_num)]
  rfl

/-- A column of numbers repeated along each row. -/
theorem col_mat (v : Fin 4096 → ℝ) : broadcastInDim S4096x128 ![0, 1] bcast_S4096x1_S4096x128_0_1 (matUp fun b (_ : Fin 1) => v b) = matUp fun b _ => v b :=
  matUp_ext _ _ fun r c => col_apply _ _ r c

/-- The distance from the mean. -/
theorem v110_mat (hV : Ref P X V0) : res_main_v110 V0 = matUp fun b o => pooled P X b o - mean (pooled P X b) := by
  unfold res_main_v110
  rw [v104_mat V0 hV, v108_mat V0 hV, col_mat, subf_mat]

/-- The standard deviation, epsilon added to the variance. -/
theorem std_mat (hV : Ref P X V0) :
    Host.sqrt (addf (F := Ideal) (Host.divf (broadcastInDim S4096x1 ![0] bcast_S4096_S4096x1_0 (Host.reduceAdd (mulf (res_main_v110 V0) (res_main_v110 V0)) (constant S_ .f32 0x00000000#32) reducesTo_S4096x128_S4096_d1 h_S_)) (broadcastInDim S4096x1 ![] bcast_S_S4096x1 (constant S_ .f32 0x43000000#32))) (broadcastInDim S4096x1 ![] bcast_S_S4096x1 (constant S_ .f32 0x3727C5AC#32)))
      = matUp fun b (_ : Fin 1) => √(var (pooled P X b) + Consts.eps) := by
  rw [v110_mat V0 hV, mulf_mat, const_mat _ 128 Consts.f32_128, const_mat _ Consts.eps Consts.f32_eps]
  have hs : broadcastInDim S4096x1 ![0] bcast_S4096_S4096x1_0 (Host.reduceAdd (F := Ideal) (matUp fun b o => (pooled P X b o - mean (pooled P X b)) * (pooled P X b o - mean (pooled P X b))) (constant S_ .f32 0x00000000#32) reducesTo_S4096x128_S4096_d1 h_S_)
      = matUp fun b (_ : Fin 1) => ∑ o, (pooled P X b o - mean (pooled P X b)) * (pooled P X b o - mean (pooled P X b)) :=
    matUp_ext _ _ fun r c => (ascol_apply _ _ r c).trans (sum_rows _ _ (by decide) _ r)
  rw [hs, div_const_mat _ _ (by norm_num), addf_mat]
  exact matUp_ext _ _ fun r c => (Ideal.sqrt_coe _).trans (if_neg (not_lt.2 (add_nonneg (var_nonneg (pooled P X r)) Consts.eps_pos.le)))

/-- The reference's result. -/
theorem result_apply (hV : Ref P X V0) (b : Fin 4096) (o : Fin 128) :
    addf (F := Ideal) (mulf (Host.divf (subf (res_main_v104 V0) (broadcastInDim S4096x128 ![0, 1] bcast_S4096x1_S4096x128_0_1 (res_main_v108 V0))) (broadcastInDim S4096x128 ![0, 1] bcast_S4096x1_S4096x128_0_1 (Host.sqrt (addf (Host.divf (broadcastInDim S4096x1 ![0] bcast_S4096_S4096x1_0 (Host.reduceAdd (mulf (res_main_v110 V0) (res_main_v110 V0)) (constant S_ .f32 0x00000000#32) reducesTo_S4096x128_S4096_d1 h_S_)) (broadcastInDim S4096x1 ![] bcast_S_S4096x1 (constant S_ .f32 0x43000000#32))) (broadcastInDim S4096x1 ![] bcast_S_S4096x1 (constant S_ .f32 0x3727C5AC#32)))))) (broadcastInDim S4096x128 ![0, 1] bcast_S1x128_S4096x128_0_1 (broadcastInDim S1x128 ![1] bcast_S128_S1x128_1 (V0 (Proc.devRef .tc main_arg13))))) (broadcastInDim S4096x128 ![0, 1] bcast_S1x128_S4096x128_0_1 (broadcastInDim S1x128 ![1] bcast_S128_S1x128_1 (V0 (Proc.devRef .tc main_arg14)))) (ix2 b o)
      = ((result P Consts.eps b.val (X b) o : ℝ) : EReal) * V0 (Proc.devRef .tc main_arg13) (ix1 o) + V0 (Proc.devRef .tc main_arg14) (ix1 o) := by
  rw [std_mat V0 hV, v104_mat V0 hV, v108_mat V0 hV, col_mat, col_mat, subf_mat]
  have hpos : ∀ b : Fin 4096, √(var (pooled P X b) + Consts.eps) ≠ 0 := fun b =>
    (Real.sqrt_pos.2 (add_pos_of_nonneg_of_pos (var_nonneg _) Consts.eps_pos)).ne'
  have hd : Host.divf (F := Ideal) (φ := .f32) (matUp fun (b : Fin 4096) (o : Fin 128) => pooled P X b o - mean (pooled P X b)) (matUp fun b _ => √(var (pooled P X b) + Consts.eps))
      = matUp fun b o => ln Consts.eps (pooled P X b) o := hostDivf_up _ _ fun i => hpos (i 0)
  rw [hd]
  have hr : ∀ (c : Fin 128) (v : V1 128), broadcastInDim S4096x128 ![0, 1] bcast_S1x128_S4096x128_0_1 (broadcastInDim S1x128 ![1] bcast_S128_S1x128_1 v) (ix2 b c) = v (ix1 c) :=
    fun c v => row_apply v _ _ b c
  show _ * broadcastInDim S4096x128 ![0, 1] bcast_S1x128_S4096x128_0_1 (broadcastInDim S1x128 ![1] bcast_S128_S1x128_1 (V0 (Proc.devRef .tc main_arg13))) (ix2 b o)
    + broadcastInDim S4096x128 ![0, 1] bcast_S1x128_S4096x128_0_1 (broadcastInDim S1x128 ![1] bcast_S128_S1x128_1 (V0 (Proc.devRef .tc main_arg14))) (ix2 b o) = _
  refine (congrArg₂ (fun u w : EReal => ((result P Consts.eps b.val (X b) o : ℝ) : EReal) * u + w) (hr o (V0 (Proc.devRef .tc main_arg13))) (hr o (V0 (Proc.devRef .tc main_arg14)))).trans rfl

end Cert.RefValue
-- ==== Proof.Tame.lean ====
/- Arguments that pass the precondition hold real numbers: every array whose entries are all finite is that of some real
   numbers, and a running variance that is positive once epsilon is added has an inverse square root. -/
module

public import proofs.«01_k».proof.Proof.Finite
public import proofs.«01_k».proof.Proof.Gen.Pre_tame
public import Idealize.ShloMosaic.Lib.ReduceAll

@[expose] public section

noncomputable section

namespace Cert.Tame

open Idealize.ShloMosaic Idealize.ShloMosaic.ValueIdx
open Cert.Lift Cert.Finite Cert.Model
open Cert.Pre_tame Cert.Pre_tame.Gen

/-- A conjunction that holds at an index, taken apart. -/
theorem both {s : Shape} (a b : IVec s 1) (i : s.Idx) (h : andi a b i = 1#1) : a i = 1#1 ∧ b i = 1#1 := IntOp.andi_eq_one.1 h

instance : Subsingleton S_.Idx := ⟨fun a b => funext fun i => i.elim0⟩

variable {s : Shape} {axes : List (Fin s.rank)}

/-- An extended real below infinity in absolute value is real. -/
theorem real_of_abs (x : EReal) (h : max x (-x) < ⊤) : ∃ r : ℝ, x = ((r : ℝ) : EReal) := by
  induction x using EReal.rec with
  | bot => exact absurd h (by simp)
  | coe r => exact ⟨r, rfl⟩
  | top => exact absurd h (by simp)

/-- An array all of whose entries are finite. -/
theorem finite (x : FVec Ideal s .f32) (hb : S_.BroadcastsInDim s ![]) (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) :
    ∃ f : s.Idx → ℝ, x = up f := by
  have hx : ∀ i, ∃ r : ℝ, x i = ((r : ℝ) : EReal) := fun i => by
    have hi := Host.reduce_andi_all _ _ hr hu j h i
    refine real_of_abs _ ?_
    have h2 : BitVec.ofBool (decide (max (x i) (-x i) < FloatOps.ofBits (F := Ideal) .f32 0x7F800000#32)) = 1#1 := hi
    rw [Consts.f32_inf] at h2
    by_contra hc
    rw [decide_eq_false hc] at h2
    exact absurd h2 (by decide)
  exact ⟨fun i => (hx i).choose, funext fun i => (hx i).choose_spec⟩

/-- A matrix, and below a vector, all of whose entries are finite. -/
theorem finite_mat {M N : ℕ} (x : V2 M N) (h : ∃ f, x = up f) : ∃ A : Fin M → Fin N → ℝ, x = matUp A := by
  obtain ⟨f, rfl⟩ := h
  exact ⟨fun r c => f (ix2 r c), matUp_ext _ _ fun _ _ => rfl⟩

theorem finite_vec {N : ℕ} (x : V1 N) (h : ∃ f, x = up f) : ∃ v : Fin N → ℝ, x = vecUp v := by
  obtain ⟨f, rfl⟩ := h
  refine ⟨fun j => f (ix1 j), funext fun i => ?_⟩
  rw [eq_ix1 i]
  rfl

/-- A running variance that is positive once epsilon is added. -/
theorem invStd {N : ℕ} (v : V1 N) (hv : ∀ j, 0 < v (ix1 j) + ((Consts.eps : ℝ) : EReal)) : ∃ r, InvStd v r := by
  have h : ∀ j, ∃ r : ℝ, Ideal.rsqrt (v (ix1 j) + ((Consts.eps : ℝ) : EReal)) = ((r : ℝ) : EReal)
      ∧ ∀ y : ℝ, Ideal.div ((y : ℝ) : EReal) (Ideal.sqrt (v (ix1 j) + ((Consts.eps : ℝ) : EReal))) = ((y * r : ℝ) : EReal) := by
    intro j
    have hj := hv j
    generalize v (ix1 j) + ((Consts.eps : ℝ) : EReal) = w at hj
    induction w using EReal.rec with
    | bot => exact absurd hj (by simp)
    | coe w =>
      have hw : 0 < w := by exact_mod_cast hj
      refine ⟨(√w)⁻¹, ?_, fun y => ?_⟩
      · rw [Ideal.rsqrt_coe, if_neg (not_lt.2 hw.le), if_neg hw.ne']
      · rw [Ideal.sqrt_coe, if_neg (not_lt.2 hw.le), Ideal.div_coe (Real.sqrt_pos.2 hw).ne', ← EReal.coe_mul, one_div]
    | top =>
      refine ⟨0, Ideal.rsqrt_top, fun y => ?_⟩
      rw [Ideal.sqrt_top, Ideal.div, if_neg (by simp), EReal.inv_top, mul_zero, mul_zero, EReal.coe_zero]
  exact ⟨fun j => (h j).choose, fun j => (h j).choose_spec.1, fun j => (h j).choose_spec.2⟩

/-- The same, of what the precondition says. -/
theorem variance {N : ℕ} (v : V1 N) (hb : S_.BroadcastsInDim ⟨1, ![N]⟩ ![]) (hr : (⟨1, ![N]⟩ : Shape).ReducesTo [0] S_) (hu : 0 < S_.numel) (j : S_.Idx)
    (h : Host.reduce IntOp.andi (cmpf (F := Ideal) .ogt (addf (φ := .f32) v (broadcastInDim ⟨1, ![N]⟩ ![] hb (constant S_ .f32 0x3727C5AC#32)))
      (broadcastInDim ⟨1, ![N]⟩ ![] hb (constant S_ .f32 0x00000000#32))) (constantI S_ 1 1#1) hr hu j = 1#1) : ∃ r, InvStd v r := by
  refine invStd v fun i => ?_
  have hi := Host.reduce_andi_all _ _ hr hu j h (ix1 i)
  have h2 : BitVec.ofBool (decide (FloatOps.ofBits (F := Ideal) .f32 0x00000000#32 < v (ix1 i) + FloatOps.ofBits (F := Ideal) .f32 0x3727C5AC#32)) = 1#1 := hi
  rw [Consts.f32_zero, Consts.f32_eps] at h2
  by_contra hc
  rw [EReal.coe_zero, decide_eq_false hc] at h2
  exact absurd h2 (by decide)

/-- Arguments that pass the precondition are those of some network and some samples. -/
theorem holds (x : V2 4096 20) (pw : V2 64 1) (pb : V1 64) (g1 : V2 256 64) (g2 : V2 128 256)
    (a1 c1 m1 v1 : V1 256) (a2 c2 m2 v2 lg lb : V1 128)
    (h : Cert.Pre_tame.fn (F := Ideal) x pw pb g1 g2 a1 c1 m1 v1 a2 c2 m2 v2 lg lb ix0 = 1#1) :
    ∃ P X, Holds P X x pw pb g1 g2 a1 c1 m1 v1 a2 c2 m2 v2 := by
  unfold fn fn_part1 fn_part2 fn_part3 at h
  obtain ⟨h, hv2⟩ := both _ _ _ h
  obtain ⟨h, hv1⟩ := both _ _ _ h
  obtain ⟨h, hm2⟩ := both _ _ _ h
  obtain ⟨h, hc2⟩ := both _ _ _ h
  obtain ⟨h, ha2⟩ := both _ _ _ h
  obtain ⟨h, hm1⟩ := both _ _ _ h
  obtain ⟨h, hc1⟩ := both _ _ _ h
  obtain ⟨h, ha1⟩ := both _ _ _ h
  obtain ⟨h, hg2⟩ := both _ _ _ h
  obtain ⟨h, hg1⟩ := both _ _ _ h
  obtain ⟨h, hpb⟩ := both _ _ _ h
  obtain ⟨hx, hpw⟩ := both _ _ _ h
  obtain ⟨X, hx⟩ := finite_mat x (finite _ _ _ _ _ hx)
  obtain ⟨PW, hpw⟩ := finite_mat pw (finite _ _ _ _ _ hpw)
  obtain ⟨PB, hpb⟩ := finite_vec pb (finite _ _ _ _ _ hpb)
  obtain ⟨G1, hg1⟩ := finite_mat g1 (finite _ _ _ _ _ hg1)
  obtain ⟨G2, hg2⟩ := finite_mat g2 (finite _ _ _ _ _ hg2)
  obtain ⟨A1, ha1⟩ := finite_vec a1 (finite _ _ _ _ _ ha1)
  obtain ⟨C1, hc1⟩ := finite_vec c1 (finite _ _ _ _ _ hc1)
  obtain ⟨M1, hm1⟩ := finite_vec m1 (finite _ _ _ _ _ hm1)
  obtain ⟨A2, ha2⟩ := finite_vec a2 (finite _ _ _ _ _ ha2)
  obtain ⟨C2, hc2⟩ := finite_vec c2 (finite _ _ _ _ _ hc2)
  obtain ⟨M2, hm2⟩ := finite_vec m2 (finite _ _ _ _ _ hm2)
  obtain ⟨R1, hv1⟩ := variance v1 _ _ _ _ hv1
  obtain ⟨R2, hv2⟩ := variance v2 _ _ _ _ hv2
  refine ⟨⟨fun k => PW k 0, PB, G1, G2, A1, C1, M1, R1, A2, C2, M2, R2⟩, X, hx, hpw.trans (matUp_ext _ _ fun k z => ?_), hpb, hg1, hg2, ha1, hc1, hm1, hv1, ha2, hc2, hm2, hv2⟩
  obtain rfl : z = 0 := Subsingleton.elim _ _
  rfl

end Cert.Tame
-- ==== Proof.lean ====
module

public import proofs.«01_k».proof.Defs
public import proofs.«01_k».proof.Proof.KernelValue
public import proofs.«01_k».proof.Proof.RefValue
public import proofs.«01_k».proof.Proof.Tame
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_tame
public import Idealize.ShloMosaic.Adequacy
public import Idealize.ShloMosaic.Init
public import Idealize.ShloMosaic.Lib.Quiescent

@[expose] public section

noncomputable section

namespace Cert.Proof

open Idealize.ShloMosaic Idealize.SL.Sem

/-- The reference ends with its arguments unchanged, from any memory. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference give equal results on arguments that pass the precondition. -/
theorem algebraic : algebraic_KernelIdeal_ReferenceIdeal_pre_tame := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans ?_
  obtain ⟨P, X, hA⟩ := Tame.holds _ _ _ _ _ _ _ _ _ _ _ _ _ _ _ (congrFun (hpre c) ValueIdx.ix0)
  obtain ⟨e0, e1, e2, e3, e4, e5, e6, e7, e8, e9, e10, e11, e12, e13, e14⟩ := hagree c
  have hR : RefValue.Ref P X (StableHlo.launchContents m' c) := by
    rw [← e0, ← e1, ← e2, ← e3, ← e4, ← e5, ← e6, ← e7, ← e8, ← e9, ← e10, ← e11, ← e12] at hA
    exact hA
  funext i
  obtain ⟨b, o, rfl⟩ : ∃ (b : Fin 4096) (o : Fin 128), i = ValueIdx.ix2 b o := ⟨_, _, ValueIdx.eq_ix2 i⟩
  refine (RefValue.result_apply _ hR b o).trans (Eq.trans ?_ (Cert.KernelIdeal.Array.G16_apply m c hA b o).symm)
  unfold Cert.KernelIdeal.Array.value
  rw [← e13, ← e14]

/-- All the claims. -/
theorem claim : Cert.Claim := ⟨Cert.Kernel.Gen.facts, Cert.KernelIdeal.Gen.facts, Cert.ReferenceIdeal.Gen.facts, Cert.Pre_tame.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  IdealRules.named_const.statement Cert.KernelIdeal.κ "inv_nodes" .f32 0x3D4CCCCD#32 ((1 / 20 : ℝ) : EReal) rfl, algebraic⟩

end Cert.Proof

end
